-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S320000x128 : Shape := ⟨2, ![320000, 128]⟩
abbrev S320000 : Shape := ⟨1, ![320000]⟩
abbrev S10000x128 : Shape := ⟨2, ![10000, 128]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S10000x128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 10000#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Kernel.lean ====
abbrev S320000x128 : Shape := ⟨2, ![320000, 128]⟩
abbrev S320000 : Shape := ⟨1, ![320000]⟩
abbrev S10000x128 : Shape := ⟨2, ![10000, 128]⟩
abbrev S32x16 : Shape := ⟨2, ![32, 16]⟩
abbrev S10000 : Shape := ⟨1, ![10000]⟩
abbrev S5x40x128 : Shape := ⟨3, ![5, 40, 128]⟩
abbrev S16 : Shape := ⟨1, ![16]⟩
abbrev S_ : Shape := ⟨0, ![]⟩
abbrev S1x40x128 : Shape := ⟨3, ![1, 40, 128]⟩
abbrev S40x128 : Shape := ⟨2, ![40, 128]⟩
abbrev S40 : Shape := ⟨1, ![40]⟩
abbrev S1x16 : Shape := ⟨2, ![1, 16]⟩

abbrev nBuf : Table → Nat
  | .hbm => 7
  | .local .scVector .vmem => 4
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S10000x128, .f32⟩
  | .hbm, ⟨3, _⟩ => ⟨S32x16, .f32⟩
  | .hbm, ⟨4, _⟩ => ⟨S_, .f32⟩
  | .hbm, ⟨5, _⟩ => ⟨S_, .f32⟩
  | .hbm, ⟨6, _⟩ => ⟨S_, .f32⟩
  | .local .scVector .vmem, ⟨0, _⟩ => ⟨S10000, .i32⟩
  | .local .scVector .vmem, ⟨1, _⟩ => ⟨S5x40x128, .f32⟩
  | .local .scVector .vmem, ⟨2, _⟩ => ⟨S5x40x128, .f32⟩
  | .local .scVector .vmem, ⟨3, _⟩ => ⟨S16, .f32⟩
  | _, _ => ⟨S320000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let v3 : BitVec 32 := Scalar.addi v2 c0_i32
  let c0_i32_3 : BitVec 32 := 0#32
  ![v3.toNat, 0]
def k0_off2_at (r : Fin 10) : BitVec 32 :=
  if r.val < 5 then
    if r.val < 2 then
      if r.val < 1 then
        0#32
      else
        40#32
    else
      if r.val < 3 then
        80#32
      else
        if r.val < 4 then
          120#32
        else
          160#32
  else
    if r.val < 7 then
      if r.val < 6 then
        9800#32
      else
        9840#32
    else
      if r.val < 8 then
        9880#32
      else
        if r.val < 9 then
          9920#32
        else
          9960#32
@[reducible] def k0_t1_loop : Scf.Loop 32 :=
  let c0_i32_62 : BitVec 32 := 0#32
  let c49_i32 : BitVec 32 := 49#32
  let v59 : BitVec 32 := Scalar.addi c0_i32_62 c49_i32
  let c1_i32_63 : BitVec 32 := 1#32
  ⟨c0_i32_62, v59, c1_i32_63⟩
def k0_off3 (i : grid0.Coords) (k0_t1 : Fin k0_t1_loop.trips) (c0_i32_160 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_62 : BitVec 32 := 0#32
  let c1_i32_63 : BitVec 32 := 1#32
  let arg20 : BitVec 32 := Scf.iv c0_i32_62 c1_i32_63 k0_t1
  let c5_i32 : BitVec 32 := 5#32
  let v136 : BitVec 32 := Scalar.muli arg20 c5_i32
  let v137 : BitVec 32 := Scalar.addi v136 c0_i32_160
  let c40_i32_161 : BitVec 32 := 40#32
  let v138 : BitVec 32 := Scalar.muli v137 c40_i32_161
  let v139 : BitVec 32 := Scalar.addi v2 v138
  let c0_i32_165 : BitVec 32 := 0#32
  ![v139.toNat, 0]
def k0_off4 (k0_t1 : Fin k0_t1_loop.trips) (c0_i32_160 : BitVec 32) : Fin 1 → Nat :=
  let c0_i32_62 : BitVec 32 := 0#32
  let c1_i32_63 : BitVec 32 := 1#32
  let arg20 : BitVec 32 := Scf.iv c0_i32_62 c1_i32_63 k0_t1
  let c5_i32 : BitVec 32 := 5#32
  let v136 : BitVec 32 := Scalar.muli arg20 c5_i32
  let v137 : BitVec 32 := Scalar.addi v136 c0_i32_160
  let c40_i32_169 : BitVec 32 := 40#32
  let v146 : BitVec 32 := Scalar.muli v137 c40_i32_169
  ![v146.toNat]
@[reducible] def k0_t2_loop : Scf.Loop 32 :=
  let c0_i32_177 : BitVec 32 := 0#32
  let c40_i32_178 : BitVec 32 := 40#32
  let v151 : BitVec 32 := Scalar.addi c0_i32_177 c40_i32_178
  let c1_i32_179 : BitVec 32 := 1#32
  ⟨c0_i32_177, v151, c1_i32_179⟩
def k0_off5 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v293 : Index := Scalar.indexCast arg29
  let c0_346 : Index := 0#32
  ![v293.toNat, 0]
def k0_off6 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v306 : Index := Scalar.indexCast arg29
  let c16 : Index := 16#32
  ![v306.toNat, 16]
def k0_off7 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v319 : Index := Scalar.indexCast arg29
  let c32 : Index := 32#32
  ![v319.toNat, 32]
def k0_off8 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v332 : Index := Scalar.indexCast arg29
  let c48 : Index := 48#32
  ![v332.toNat, 48]
def k0_off9 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v345 : Index := Scalar.indexCast arg29
  let c64 : Index := 64#32
  ![v345.toNat, 64]
def k0_off10 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v358 : Index := Scalar.indexCast arg29
  let c80 : Index := 80#32
  ![v358.toNat, 80]
def k0_off11 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v371 : Index := Scalar.indexCast arg29
  let c96 : Index := 96#32
  ![v371.toNat, 96]
def k0_off12 (k0_t2 : Fin k0_t2_loop.trips) : Fin 2 → Nat :=
  let c0_i32_177 : BitVec 32 := 0#32
  let c1_i32_179 : BitVec 32 := 1#32
  let arg29 : BitVec 32 := Scf.iv c0_i32_177 c1_i32_179 k0_t2
  let v384 : Index := Scalar.indexCast arg29
  let c112 : Index := 112#32
  ![v384.toNat, 112]
def k0_off13 (i : grid0.Coords) (k0_t1 : Fin k0_t1_loop.trips) (c0_i32_160 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_62 : BitVec 32 := 0#32
  let c1_i32_63 : BitVec 32 := 1#32
  let arg20 : BitVec 32 := Scf.iv c0_i32_62 c1_i32_63 k0_t1
  let c5_i32 : BitVec 32 := 5#32
  let v136 : BitVec 32 := Scalar.muli arg20 c5_i32
  let v137 : BitVec 32 := Scalar.addi v136 c0_i32_160
  let c5_i32_181 : BitVec 32 := 5#32
  let v153 : BitVec 32 := Scalar.addi v137 c5_i32_181
  let c40_i32_182 : BitVec 32 := 40#32
  let v154 : BitVec 32 := Scalar.muli v153 c40_i32_182
  let v155 : BitVec 32 := Scalar.addi v2 v154
  let c0_i32_186 : BitVec 32 := 0#32
  ![v155.toNat, 0]
def k0_off14 (k0_t1 : Fin k0_t1_loop.trips) (c0_i32_160 : BitVec 32) : Fin 1 → Nat :=
  let c0_i32_62 : BitVec 32 := 0#32
  let c1_i32_63 : BitVec 32 := 1#32
  let arg20 : BitVec 32 := Scf.iv c0_i32_62 c1_i32_63 k0_t1
  let c5_i32 : BitVec 32 := 5#32
  let v136 : BitVec 32 := Scalar.muli arg20 c5_i32
  let v137 : BitVec 32 := Scalar.addi v136 c0_i32_160
  let c5_i32_181 : BitVec 32 := 5#32
  let v153 : BitVec 32 := Scalar.addi v137 c5_i32_181
  let c40_i32_190 : BitVec 32 := 40#32
  let v162 : BitVec 32 := Scalar.muli v153 c40_i32_190
  ![v162.toNat]
@[reducible] def k0_t3_loop : Scf.Loop 32 :=
  let c0_i32_214 : BitVec 32 := 0#32
  let c40_i32_215 : BitVec 32 := 40#32
  let v182 : BitVec 32 := Scalar.addi c0_i32_214 c40_i32_215
  let c1_i32_216 : BitVec 32 := 1#32
  ⟨c0_i32_214, v182, c1_i32_216⟩
def k0_off15 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v293 : Index := Scalar.indexCast arg29
  let c0_346 : Index := 0#32
  ![v293.toNat, 0]
def k0_off16 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v306 : Index := Scalar.indexCast arg29
  let c16 : Index := 16#32
  ![v306.toNat, 16]
def k0_off17 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v319 : Index := Scalar.indexCast arg29
  let c32 : Index := 32#32
  ![v319.toNat, 32]
def k0_off18 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v332 : Index := Scalar.indexCast arg29
  let c48 : Index := 48#32
  ![v332.toNat, 48]
def k0_off19 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v345 : Index := Scalar.indexCast arg29
  let c64 : Index := 64#32
  ![v345.toNat, 64]
def k0_off20 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v358 : Index := Scalar.indexCast arg29
  let c80 : Index := 80#32
  ![v358.toNat, 80]
def k0_off21 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v371 : Index := Scalar.indexCast arg29
  let c96 : Index := 96#32
  ![v371.toNat, 96]
def k0_off22 (k0_t3 : Fin k0_t3_loop.trips) : Fin 2 → Nat :=
  let c0_i32_214 : BitVec 32 := 0#32
  let c1_i32_216 : BitVec 32 := 1#32
  let arg29 : BitVec 32 := Scf.iv c0_i32_214 c1_i32_216 k0_t3
  let v384 : Index := Scalar.indexCast arg29
  let c112 : Index := 112#32
  ![v384.toNat, 112]
@[reducible] def k0_t4_loop : Scf.Loop 32 :=
  let c0_i32_251 : BitVec 32 := 0#32
  let c40_i32_252 : BitVec 32 := 40#32
  let v213 : BitVec 32 := Scalar.addi c0_i32_251 c40_i32_252
  let c1_i32_253 : BitVec 32 := 1#32
  ⟨c0_i32_251, v213, c1_i32_253⟩
def k0_off23 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v293 : Index := Scalar.indexCast arg29
  let c0_346 : Index := 0#32
  ![v293.toNat, 0]
def k0_off24 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v306 : Index := Scalar.indexCast arg29
  let c16 : Index := 16#32
  ![v306.toNat, 16]
def k0_off25 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v319 : Index := Scalar.indexCast arg29
  let c32 : Index := 32#32
  ![v319.toNat, 32]
def k0_off26 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v332 : Index := Scalar.indexCast arg29
  let c48 : Index := 48#32
  ![v332.toNat, 48]
def k0_off27 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v345 : Index := Scalar.indexCast arg29
  let c64 : Index := 64#32
  ![v345.toNat, 64]
def k0_off28 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v358 : Index := Scalar.indexCast arg29
  let c80 : Index := 80#32
  ![v358.toNat, 80]
def k0_off29 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v371 : Index := Scalar.indexCast arg29
  let c96 : Index := 96#32
  ![v371.toNat, 96]
def k0_off30 (k0_t4 : Fin k0_t4_loop.trips) : Fin 2 → Nat :=
  let c0_i32_251 : BitVec 32 := 0#32
  let c1_i32_253 : BitVec 32 := 1#32
  let arg29 : BitVec 32 := Scf.iv c0_i32_251 c1_i32_253 k0_t4
  let v384 : Index := Scalar.indexCast arg29
  let c112 : Index := 112#32
  ![v384.toNat, 112]
@[reducible] def k0_t5_loop : Scf.Loop 32 :=
  let c0_i32_288 : BitVec 32 := 0#32
  let c40_i32_289 : BitVec 32 := 40#32
  let v244 : BitVec 32 := Scalar.addi c0_i32_288 c40_i32_289
  let c1_i32_290 : BitVec 32 := 1#32
  ⟨c0_i32_288, v244, c1_i32_290⟩
def k0_off31 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v293 : Index := Scalar.indexCast arg29
  let c0_346 : Index := 0#32
  ![v293.toNat, 0]
def k0_off32 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v306 : Index := Scalar.indexCast arg29
  let c16 : Index := 16#32
  ![v306.toNat, 16]
def k0_off33 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v319 : Index := Scalar.indexCast arg29
  let c32 : Index := 32#32
  ![v319.toNat, 32]
def k0_off34 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v332 : Index := Scalar.indexCast arg29
  let c48 : Index := 48#32
  ![v332.toNat, 48]
def k0_off35 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v345 : Index := Scalar.indexCast arg29
  let c64 : Index := 64#32
  ![v345.toNat, 64]
def k0_off36 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v358 : Index := Scalar.indexCast arg29
  let c80 : Index := 80#32
  ![v358.toNat, 80]
def k0_off37 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v371 : Index := Scalar.indexCast arg29
  let c96 : Index := 96#32
  ![v371.toNat, 96]
def k0_off38 (k0_t5 : Fin k0_t5_loop.trips) : Fin 2 → Nat :=
  let c0_i32_288 : BitVec 32 := 0#32
  let c1_i32_290 : BitVec 32 := 1#32
  let arg29 : BitVec 32 := Scf.iv c0_i32_288 c1_i32_290 k0_t5
  let v384 : Index := Scalar.indexCast arg29
  let c112 : Index := 112#32
  ![v384.toNat, 112]
@[reducible] def k0_t6_loop : Scf.Loop 32 :=
  let c0_i32_325 : BitVec 32 := 0#32
  let c40_i32_326 : BitVec 32 := 40#32
  let v275 : BitVec 32 := Scalar.addi c0_i32_325 c40_i32_326
  let c1_i32_327 : BitVec 32 := 1#32
  ⟨c0_i32_325, v275, c1_i32_327⟩
def k0_off39 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v293 : Index := Scalar.indexCast arg29
  let c0_346 : Index := 0#32
  ![v293.toNat, 0]
def k0_off40 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v306 : Index := Scalar.indexCast arg29
  let c16 : Index := 16#32
  ![v306.toNat, 16]
def k0_off41 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v319 : Index := Scalar.indexCast arg29
  let c32 : Index := 32#32
  ![v319.toNat, 32]
def k0_off42 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v332 : Index := Scalar.indexCast arg29
  let c48 : Index := 48#32
  ![v332.toNat, 48]
def k0_off43 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v345 : Index := Scalar.indexCast arg29
  let c64 : Index := 64#32
  ![v345.toNat, 64]
def k0_off44 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v358 : Index := Scalar.indexCast arg29
  let c80 : Index := 80#32
  ![v358.toNat, 80]
def k0_off45 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v371 : Index := Scalar.indexCast arg29
  let c96 : Index := 96#32
  ![v371.toNat, 96]
def k0_off46 (k0_t6 : Fin k0_t6_loop.trips) : Fin 2 → Nat :=
  let c0_i32_325 : BitVec 32 := 0#32
  let c1_i32_327 : BitVec 32 := 1#32
  let arg29 : BitVec 32 := Scf.iv c0_i32_325 c1_i32_327 k0_t6
  let v384 : Index := Scalar.indexCast arg29
  let c112 : Index := 112#32
  ![v384.toNat, 112]
@[reducible] def k0_t7_loop : Scf.Loop 32 :=
  let c0_i32_80 : BitVec 32 := 0#32
  let c40_i32_81 : BitVec 32 := 40#32
  let v72 : BitVec 32 := Scalar.addi c0_i32_80 c40_i32_81
  let c1_i32_82 : BitVec 32 := 1#32
  ⟨c0_i32_80, v72, c1_i32_82⟩
def k0_off47 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v138 : Index := Scalar.indexCast arg20
  let c0_162 : Index := 0#32
  ![v138.toNat, 0]
def k0_off48 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v151 : Index := Scalar.indexCast arg20
  let c16 : Index := 16#32
  ![v151.toNat, 16]
def k0_off49 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v164 : Index := Scalar.indexCast arg20
  let c32 : Index := 32#32
  ![v164.toNat, 32]
def k0_off50 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v177 : Index := Scalar.indexCast arg20
  let c48 : Index := 48#32
  ![v177.toNat, 48]
def k0_off51 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v190 : Index := Scalar.indexCast arg20
  let c64 : Index := 64#32
  ![v190.toNat, 64]
def k0_off52 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v203 : Index := Scalar.indexCast arg20
  let c80 : Index := 80#32
  ![v203.toNat, 80]
def k0_off53 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v216 : Index := Scalar.indexCast arg20
  let c96 : Index := 96#32
  ![v216.toNat, 96]
def k0_off54 (k0_t7 : Fin k0_t7_loop.trips) : Fin 2 → Nat :=
  let c0_i32_80 : BitVec 32 := 0#32
  let c1_i32_82 : BitVec 32 := 1#32
  let arg20 : BitVec 32 := Scf.iv c0_i32_80 c1_i32_82 k0_t7
  let v229 : Index := Scalar.indexCast arg20
  let c112 : Index := 112#32
  ![v229.toNat, 112]
@[reducible] def k0_t8_loop : Scf.Loop 32 :=
  let c0_i32_99 : BitVec 32 := 0#32
  let c40_i32_100 : BitVec 32 := 40#32
  let v85 : BitVec 32 := Scalar.addi c0_i32_99 c40_i32_100
  let c1_i32_101 : BitVec 32 := 1#32
  ⟨c0_i32_99, v85, c1_i32_101⟩
def k0_off55 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v138 : Index := Scalar.indexCast arg20
  let c0_162 : Index := 0#32
  ![v138.toNat, 0]
def k0_off56 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v151 : Index := Scalar.indexCast arg20
  let c16 : Index := 16#32
  ![v151.toNat, 16]
def k0_off57 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v164 : Index := Scalar.indexCast arg20
  let c32 : Index := 32#32
  ![v164.toNat, 32]
def k0_off58 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v177 : Index := Scalar.indexCast arg20
  let c48 : Index := 48#32
  ![v177.toNat, 48]
def k0_off59 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v190 : Index := Scalar.indexCast arg20
  let c64 : Index := 64#32
  ![v190.toNat, 64]
def k0_off60 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v203 : Index := Scalar.indexCast arg20
  let c80 : Index := 80#32
  ![v203.toNat, 80]
def k0_off61 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v216 : Index := Scalar.indexCast arg20
  let c96 : Index := 96#32
  ![v216.toNat, 96]
def k0_off62 (k0_t8 : Fin k0_t8_loop.trips) : Fin 2 → Nat :=
  let c0_i32_99 : BitVec 32 := 0#32
  let c1_i32_101 : BitVec 32 := 1#32
  let arg20 : BitVec 32 := Scf.iv c0_i32_99 c1_i32_101 k0_t8
  let v229 : Index := Scalar.indexCast arg20
  let c112 : Index := 112#32
  ![v229.toNat, 112]
@[reducible] def k0_t9_loop : Scf.Loop 32 :=
  let c0_i32_118 : BitVec 32 := 0#32
  let c40_i32_119 : BitVec 32 := 40#32
  let v98 : BitVec 32 := Scalar.addi c0_i32_118 c40_i32_119
  let c1_i32_120 : BitVec 32 := 1#32
  ⟨c0_i32_118, v98, c1_i32_120⟩
def k0_off63 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v138 : Index := Scalar.indexCast arg20
  let c0_162 : Index := 0#32
  ![v138.toNat, 0]
def k0_off64 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v151 : Index := Scalar.indexCast arg20
  let c16 : Index := 16#32
  ![v151.toNat, 16]
def k0_off65 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v164 : Index := Scalar.indexCast arg20
  let c32 : Index := 32#32
  ![v164.toNat, 32]
def k0_off66 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v177 : Index := Scalar.indexCast arg20
  let c48 : Index := 48#32
  ![v177.toNat, 48]
def k0_off67 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v190 : Index := Scalar.indexCast arg20
  let c64 : Index := 64#32
  ![v190.toNat, 64]
def k0_off68 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v203 : Index := Scalar.indexCast arg20
  let c80 : Index := 80#32
  ![v203.toNat, 80]
def k0_off69 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v216 : Index := Scalar.indexCast arg20
  let c96 : Index := 96#32
  ![v216.toNat, 96]
def k0_off70 (k0_t9 : Fin k0_t9_loop.trips) : Fin 2 → Nat :=
  let c0_i32_118 : BitVec 32 := 0#32
  let c1_i32_120 : BitVec 32 := 1#32
  let arg20 : BitVec 32 := Scf.iv c0_i32_118 c1_i32_120 k0_t9
  let v229 : Index := Scalar.indexCast arg20
  let c112 : Index := 112#32
  ![v229.toNat, 112]
@[reducible] def k0_t10_loop : Scf.Loop 32 :=
  let c0_i32_137 : BitVec 32 := 0#32
  let c40_i32_138 : BitVec 32 := 40#32
  let v111 : BitVec 32 := Scalar.addi c0_i32_137 c40_i32_138
  let c1_i32_139 : BitVec 32 := 1#32
  ⟨c0_i32_137, v111, c1_i32_139⟩
def k0_off71 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v138 : Index := Scalar.indexCast arg20
  let c0_162 : Index := 0#32
  ![v138.toNat, 0]
def k0_off72 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v151 : Index := Scalar.indexCast arg20
  let c16 : Index := 16#32
  ![v151.toNat, 16]
def k0_off73 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v164 : Index := Scalar.indexCast arg20
  let c32 : Index := 32#32
  ![v164.toNat, 32]
def k0_off74 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v177 : Index := Scalar.indexCast arg20
  let c48 : Index := 48#32
  ![v177.toNat, 48]
def k0_off75 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v190 : Index := Scalar.indexCast arg20
  let c64 : Index := 64#32
  ![v190.toNat, 64]
def k0_off76 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v203 : Index := Scalar.indexCast arg20
  let c80 : Index := 80#32
  ![v203.toNat, 80]
def k0_off77 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v216 : Index := Scalar.indexCast arg20
  let c96 : Index := 96#32
  ![v216.toNat, 96]
def k0_off78 (k0_t10 : Fin k0_t10_loop.trips) : Fin 2 → Nat :=
  let c0_i32_137 : BitVec 32 := 0#32
  let c1_i32_139 : BitVec 32 := 1#32
  let arg20 : BitVec 32 := Scf.iv c0_i32_137 c1_i32_139 k0_t10
  let v229 : Index := Scalar.indexCast arg20
  let c112 : Index := 112#32
  ![v229.toNat, 112]
@[reducible] def k0_t11_loop : Scf.Loop 32 :=
  let c0_i32_156 : BitVec 32 := 0#32
  let c40_i32_157 : BitVec 32 := 40#32
  let v124 : BitVec 32 := Scalar.addi c0_i32_156 c40_i32_157
  let c1_i32_158 : BitVec 32 := 1#32
  ⟨c0_i32_156, v124, c1_i32_158⟩
def k0_off79 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v138 : Index := Scalar.indexCast arg20
  let c0_162 : Index := 0#32
  ![v138.toNat, 0]
def k0_off80 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v151 : Index := Scalar.indexCast arg20
  let c16 : Index := 16#32
  ![v151.toNat, 16]
def k0_off81 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v164 : Index := Scalar.indexCast arg20
  let c32 : Index := 32#32
  ![v164.toNat, 32]
def k0_off82 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v177 : Index := Scalar.indexCast arg20
  let c48 : Index := 48#32
  ![v177.toNat, 48]
def k0_off83 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v190 : Index := Scalar.indexCast arg20
  let c64 : Index := 64#32
  ![v190.toNat, 64]
def k0_off84 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v203 : Index := Scalar.indexCast arg20
  let c80 : Index := 80#32
  ![v203.toNat, 80]
def k0_off85 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v216 : Index := Scalar.indexCast arg20
  let c96 : Index := 96#32
  ![v216.toNat, 96]
def k0_off86 (k0_t11 : Fin k0_t11_loop.trips) : Fin 2 → Nat :=
  let c0_i32_156 : BitVec 32 := 0#32
  let c1_i32_158 : BitVec 32 := 1#32
  let arg20 : BitVec 32 := Scf.iv c0_i32_156 c1_i32_158 k0_t11
  let v229 : Index := Scalar.indexCast arg20
  let c112 : Index := 112#32
  ![v229.toNat, 112]
def k0_off87 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_160_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S10000x128 : Shape := ⟨2, ![10000, 128]⟩
abbrev S_ : Shape := ⟨0, ![]⟩
abbrev S320000x1 : Shape := ⟨2, ![320000, 1]⟩
abbrev S1 : Shape := ⟨1, ![1]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S10000x128, .f32⟩
  | .hbm, ⟨3, _⟩ => ⟨S_, .i32⟩
  | .hbm, ⟨4, _⟩ => ⟨S320000, .i32⟩
  | .hbm, ⟨5, _⟩ => ⟨S320000, .i1⟩
  | .hbm, ⟨6, _⟩ => ⟨S_, .i32⟩
  | .hbm, ⟨7, _⟩ => ⟨S320000, .i32⟩
  | .hbm, ⟨8, _⟩ => ⟨S320000, .i32⟩
  | .hbm, ⟨9, _⟩ => ⟨S320000, .i32⟩
  | .hbm, ⟨10, _⟩ => ⟨S320000x1, .i32⟩
  | .hbm, ⟨11, _⟩ => ⟨S1, .i32⟩
  | .hbm, ⟨12, _⟩ => ⟨S_, .i32⟩
  | .hbm, ⟨13, _⟩ => ⟨S320000x1, .i32⟩
  | .hbm, ⟨14, _⟩ => ⟨S320000x1, .i1⟩
  | .hbm, ⟨15, _⟩ => ⟨S1x1, .i32⟩
  | .hbm, ⟨16, _⟩ => ⟨S320000x1, .i32⟩
  | .hbm, ⟨17, _⟩ => ⟨S320000x1, .i1⟩
  | .hbm, ⟨18, _⟩ => ⟨S320000x1, .i1⟩
  | .hbm, ⟨19, _⟩ => ⟨S_, .i1⟩
  | .hbm, ⟨20, _⟩ => ⟨S320000, .i1⟩
  | .hbm, ⟨21, _⟩ => ⟨S320000x128, .f32⟩
  | .hbm, ⟨22, _⟩ => ⟨S320000x128, .i1⟩
  | .hbm, ⟨23, _⟩ => ⟨S_, .f32⟩
  | .hbm, ⟨24, _⟩ => ⟨S320000x128, .f32⟩
  | .hbm, ⟨25, _⟩ => ⟨S320000x128, .f32⟩
  | .hbm, ⟨26, _⟩ => ⟨S320000x128, .f32⟩
  | .hbm, ⟨27, _⟩ => ⟨S320000x128, .f32⟩
  | .hbm, ⟨28, _⟩ => ⟨S_, .f32⟩
  | .hbm, ⟨29, _⟩ => ⟨S_, .f32⟩
  | .hbm, ⟨30, _⟩ => ⟨S_, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]
-- ==== Proof.Body.lean ====
/-
  The tile's program, told in its own steps: start a chunk's two transfers into a slot, wait for them, run the rows of
  the slot through the eight accumulators; five slots to a turn of the ring. The printed program IS this one (`tile_eq`).
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Sq

open Cert.KernelIdeal Cert.KernelIdeal.Gen

open Idealize.ShloMosaic Idealize.SL.Sem

variable {F : FTy → Type} [FloatOps F]

/-! ## The tile's arrays -/

/-- The tile `L`'s processor. -/
abbrev proc (L : grid0.Coords) : Proc τ := .scVector ((L 0).castLE hcore0) ((L 1).castLE hsub0)

/-- The programs of tile `L`. -/
abbrev TP (F : FTy → Type) (L : grid0.Coords) (α : Type) : Type 1 := Prog (TpuEff nD τ sig (Elt F) Λ₀ (proc L)) α

/-- The eight accumulators. -/
abbrev Acc (F : FTy → Type) : Type :=
  FVec F S16 .f32 × FVec F S16 .f32 × FVec F S16 .f32 × FVec F S16 .f32 × FVec F S16 .f32 × FVec F S16 .f32 × FVec F S16 .f32 × FVec F S16 .f32

abbrev xV : Memref sig .scVector .hbm S320000x128 .f32 := Memref.whole main_arg0_scv
abbrev lV : Memref sig .scVector .hbm S320000 .i32 := Memref.whole main_arg1_scv
abbrev tV : Memref sig .scVector .hbm S10000x128 .f32 := Memref.whole main_arg2_scv
abbrev oV : Memref sig .scVector .hbm S32x16 .f32 := Memref.whole main_v0_scv
abbrev idxV : Memref sig .scVector .vmem S10000 .i32 := Memref.whole cc0_scratch0
abbrev xbV : Memref sig .scVector .vmem S5x40x128 .f32 := Memref.whole cc0_scratch1
abbrev mbV : Memref sig .scVector .vmem S5x40x128 .f32 := Memref.whole cc0_scratch2
abbrev accV : Memref sig .scVector .vmem S16 .f32 := Memref.whole cc0_scratch3

/-- Slot `b` of a five-slot buffer lies inside it. -/
theorem slot_inb : ∀ b : Fin 5, ∀ a, (![b.val, 0, 0] : Fin 3 → ℕ) a + S1x40x128.size a ≤ S5x40x128.size a := by decide

/-- Slot `b` of a five-slot buffer. -/
abbrev slotOf (v : Memref sig .scVector .vmem S5x40x128 .f32) (b : Fin 5) : Memref sig .scVector .vmem S40x128 .f32 :=
  (v.slice (Rect.unit (s := S5x40x128) ![b.val, 0, 0] S1x40x128.size (slot_inb b)) (fun _ => rfl)).squeeze S40x128 squeezes_S1x40x128_S40x128

/-- Forty rows of the inputs. -/
abbrev xAt (o : Fin 2 → ℕ) (h : ∀ a, o a + S40x128.size a ≤ S320000x128.size a) : Memref sig .scVector .hbm S40x128 .f32 :=
  xV.slice (Rect.unit (s := S320000x128) o S40x128.size h) (fun _ => rfl)
/-- Forty of the tile's labels, in its own memory. -/
abbrev lAt (o : Fin 1 → ℕ) (h : ∀ a, o a + S40.size a ≤ S10000.size a) : Memref sig .scVector .vmem S40 .i32 :=
  idxV.slice (Rect.unit (s := S10000) o S40.size h) (fun _ => rfl)
/-- The table of means, all of it. -/
abbrev tAll : Memref sig .scVector .hbm S10000x128 .f32 :=
  tV.slice (Rect.unit (s := S10000x128) ![0, 0] S10000x128.size inb_S10000x128_S10000x128_0_0) (fun _ => rfl)
/-- The tile's labels in the whole list. -/
abbrev lTile (L : grid0.Coords) : Memref sig .scVector .hbm S10000 .i32 :=
  lV.slice (Rect.unit (s := S320000) (k0_off1 L) S10000.size (k0_off1_inb L)) (fun _ => rfl)
/-- The tile's row of the partial sums. -/
abbrev oTile (L : grid0.Coords) : Memref sig .scVector .hbm S16 .f32 :=
  (oV.slice (Rect.unit (s := S32x16) (k0_off87 L) S1x16.size (k0_off87_inb L)) (fun _ => rfl)).squeeze S16 squeezes_S1x16_S16

/-- The semaphores of the slots' transfers: of the inputs' rows, of the means'. -/
abbrev semX : Fin 5 → DmaSem sig := ![cc0_scratch4.sem, cc0_scratch5.sem, cc0_scratch6.sem, cc0_scratch7.sem, cc0_scratch8.sem]
abbrev semM : Fin 5 → DmaSem sig := ![cc0_scratch9.sem, cc0_scratch10.sem, cc0_scratch11.sem, cc0_scratch12.sem, cc0_scratch13.sem]

/-! ## The steps -/

/-- Load sixteen lanes of row `t`, from both buffers, and add the square of their difference. -/
def lanes (L : grid0.Coords) (X M : Memref sig .scVector .vmem S40x128 .f32) (o : Fin 2 → ℕ)
    (h : ∀ a, o a + S1x16.size a ≤ S40x128.size a) (a : FVec F S16 .f32) : TP F L (FVec F S16 .f32) := do
  let x : Vec F S1x16 .f32 ← Prog.lift (.load X (Rect.unit (s := S40x128) o S1x16.size h).toLoadRect (View.loadsAt_vmem h_S1x16))
  let m : Vec F S1x16 .f32 ← Prog.lift (.load M (Rect.unit (s := S40x128) o S1x16.size h).toLoadRect (View.loadsAt_vmem h_S1x16))
  pure (k0_pay1 a x m)

/-- One row of a slot. -/
def rowTrip (L : grid0.Coords) (X M : Memref sig .scVector .vmem S40x128 .f32) (t : Fin k0_t2_loop.trips) (a : Acc F) : TP F L (Acc F) := do
  let a0 ← lanes L X M (k0_off5 t) (k0_off5_inb t) a.1
  let a1 ← lanes L X M (k0_off6 t) (k0_off6_inb t) a.2.1
  let a2 ← lanes L X M (k0_off7 t) (k0_off7_inb t) a.2.2.1
  let a3 ← lanes L X M (k0_off8 t) (k0_off8_inb t) a.2.2.2.1
  let a4 ← lanes L X M (k0_off9 t) (k0_off9_inb t) a.2.2.2.2.1
  let a5 ← lanes L X M (k0_off10 t) (k0_off10_inb t) a.2.2.2.2.2.1
  let a6 ← lanes L X M (k0_off11 t) (k0_off11_inb t) a.2.2.2.2.2.2.1
  let a7 ← lanes L X M (k0_off12 t) (k0_off12_inb t) a.2.2.2.2.2.2.2
  pure (a0, a1, a2, a3, a4, a5, a6, a7)

/-- Start slot `b`'s transfers: forty rows of the inputs, and the rows of the means that forty labels name. -/
def startP (L : grid0.Coords) (b : Fin 5) (ox : Fin 2 → ℕ) (hx : ∀ a, ox a + S40x128.size a ≤ S320000x128.size a)
    (ol : Fin 1 → ℕ) (hl : ∀ a, ol a + S40.size a ≤ S10000.size a) : TP F L PUnit := do
  Prog.lift (.enqueueDma (xAt ox hx) (.here (slotOf xbV b)) (.dma (semX b)) (View.wordExact_bits rfl) ((View.wordExact_bits rfl).reshape _ _) ⟨Or.inl rfl, trivial⟩)
  SparseCore.enqueueIndirectGather rfl tAll (slotOf mbV b) gathers_S10000x128_S40x128 (lAt ol hl) rfl (semM b) (View.wordExact_bits rfl) rfl (Or.inl rfl)

/-- Wait for slot `b`'s transfers. -/
def waitP (L : grid0.Coords) (b : Fin 5) (ox : Fin 2 → ℕ) (hx : ∀ a, ox a + S40x128.size a ≤ S320000x128.size a) : TP F L PUnit := do
  Prog.lift (.waitDma2 (semX b) (xAt ox hx) (slotOf xbV b) (View.wordExact_bits rfl) ((View.wordExact_bits rfl).reshape _ _))
  SparseCore.waitIndirectGather (semM b) tAll (slotOf mbV b) (View.wordExact_bits rfl) ((View.wordExact_bits rfl).reshape _ _)

/-- Slot `b`'s forty rows through the accumulators. -/
def sumP (L : grid0.Coords) (b : Fin 5) (a : Acc F) : TP F L (Acc F) :=
  Scf.Loop.for k0_t2_loop k0_t2_ok a (rowTrip L (slotOf xbV b) (slotOf mbV b))

/-- Slot `b` in a turn of the ring. -/
def slotP (L : grid0.Coords) (t : Fin k0_t1_loop.trips) (b : Fin 5) (a : Acc F) : TP F L (Acc F) := do
  waitP L b (k0_off3 L t (BitVec.ofNat 32 b.val)) (k0_off3_inb L t b)
  let a ← sumP L b a
  startP L b (k0_off13 L t (BitVec.ofNat 32 b.val)) (k0_off13_inb L t b) (k0_off14 t (BitVec.ofNat 32 b.val)) (k0_off14_inb t b)
  pure a

/-- A turn of the ring. -/
def ringP (L : grid0.Coords) (t : Fin k0_t1_loop.trips) (a : Acc F) : TP F L (Acc F) := do
  let a ← slotP L t 0 a
  let a ← slotP L t 1 a
  let a ← slotP L t 2 a
  let a ← slotP L t 3 a
  slotP L t 4 a

/-- Slot `b` after the ring: its last chunk. -/
def lastP (L : grid0.Coords) (b : Fin 5) (o : BitVec 32) (h : ∀ a, k0_off2 L o a + S40x128.size a ≤ S320000x128.size a) (a : Acc F) : TP F L (Acc F) := do
  waitP L b (k0_off2 L o) h
  sumP L b a

/-- The tile's program. -/
def tileP (L : grid0.Coords) : TP F L PUnit := do
  Prog.lift (.enqueueDma (lTile L) (.here idxV) (.dma cc0_scoped0.sem) (View.wordExact_bits rfl) (Memref.isWhole_whole _).wordExact ⟨Or.inl rfl, trivial⟩)
  Prog.lift (.waitDma2 cc0_scoped0.sem (lTile L) idxV (View.wordExact_bits rfl) (Memref.isWhole_whole _).wordExact)
  startP L 0 (k0_off2 L 0#32) (k0_off2_inb L 0) ![0] inb_S10000_S40_0
  startP L 1 (k0_off2 L 40#32) (k0_off2_inb L 1) ![40] inb_S10000_S40_40
  startP L 2 (k0_off2 L 80#32) (k0_off2_inb L 2) ![80] inb_S10000_S40_80
  startP L 3 (k0_off2 L 120#32) (k0_off2_inb L 3) ![120] inb_S10000_S40_120
  startP L 4 (k0_off2 L 160#32) (k0_off2_inb L 4) ![160] inb_S10000_S40_160
  let a ← Scf.Loop.for k0_t1_loop k0_t1_ok (k0_pay71 (F := F), k0_pay71 (F := F), k0_pay71 (F := F), k0_pay71 (F := F), k0_pay71 (F := F), k0_pay71 (F := F), k0_pay71 (F := F), k0_pay71 (F := F)) (ringP L)
  let a ← lastP L 0 9800#32 (k0_off2_inb L 5) a
  let a ← lastP L 1 9840#32 (k0_off2_inb L 6) a
  let a ← lastP L 2 9880#32 (k0_off2_inb L 7) a
  let a ← lastP L 3 9920#32 (k0_off2_inb L 8) a
  let a ← lastP L 4 9960#32 (k0_off2_inb L 9) a
  let _ : Vec F S16 .f32 ← Prog.lift (.load accV (Rect.unit (s := S16) ![0] S16.size inb_S16_S16_0).toLoadRect (View.loadsAt_vmem h_S16))
  Prog.lift (.store accV (Rect.unit (s := S16) ![0] S16.size inb_S16_S16_0) (k0_pay82 a.1 a.2.1 a.2.2.1 a.2.2.2.1 a.2.2.2.2.1 a.2.2.2.2.2.1 a.2.2.2.2.2.2.1 a.2.2.2.2.2.2.2) Finset.univ (View.stores_vmem_bits_univ h_S16 rfl) (.inl rfl))
  Prog.lift (.enqueueDma accV (.here (oTile L)) (.dma cc0_scoped1.sem) (Memref.isWhole_whole _).wordExact ((View.wordExact_bits rfl).reshape _ _) ⟨Or.inl rfl, trivial⟩)
  Prog.lift (.waitDma2 cc0_scoped1.sem accV (oTile L) (Memref.isWhole_whole _).wordExact ((View.wordExact_bits rfl).reshape _ _))
  pure ⟨⟩

/-! ## The printed program is that -/

set_option maxRecDepth 65536 in
theorem rows2_eq (L : grid0.Coords) (v2 c0_i32_62 c1_i32_63 : BitVec 32) (k0_t1 : Fin k0_t1_loop.trips) (b21 b22 b23 b24 b25 b26 b27 b28 : FVec F S16 .f32) :
    k0_t2_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 c0_i32_62 c1_i32_63 k0_t1 b21 b22 b23 b24 b25 b26 b27 b28
      = rowTrip L (slotOf xbV 0) (slotOf mbV 0) := by
  funext k a
  obtain ⟨c0, c1, c2, c3, c4, c5, c6, c7⟩ := a
  simp only [k0_t2_body, rowTrip, lanes, k0_part1_eq_skeleton, k0_part1_skel, k0_part2_eq_skeleton, k0_part2_skel, bind_assoc, pure_bind]
  rfl

set_option maxRecDepth 65536 in
theorem rows3_eq (L : grid0.Coords) (v2 : BitVec 32) (k0_t1 : Fin k0_t1_loop.trips) (b20 : BitVec 32) (v152_0 v152_1 v152_2 v152_3 v152_4 v152_5 v152_6 v152_7 : FVec F S16 .f32) (v153 : BitVec 32) :
    k0_t3_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 k0_t1 b20 v152_0 v152_1 v152_2 v152_3 v152_4 v152_5 v152_6 v152_7 v153
      = rowTrip L (slotOf xbV 1) (slotOf mbV 1) := by
  funext k a
  obtain ⟨c0, c1, c2, c3, c4, c5, c6, c7⟩ := a
  simp only [k0_t3_body, rowTrip, lanes, k0_part3_eq_skeleton, k0_part3_skel, k0_part4_eq_skeleton, k0_part4_skel, bind_assoc, pure_bind]
  rfl

set_option maxRecDepth 65536 in
theorem rows4_eq (L : grid0.Coords) (v2 : BitVec 32) (k0_t1 : Fin k0_t1_loop.trips) (b20 : BitVec 32) (v183_0 v183_1 v183_2 v183_3 v183_4 v183_5 v183_6 v183_7 : FVec F S16 .f32) (v199 : BitVec 32) :
    k0_t4_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 k0_t1 b20 v183_0 v183_1 v183_2 v183_3 v183_4 v183_5 v183_6 v183_7 v199
      = rowTrip L (slotOf xbV 2) (slotOf mbV 2) := by
  funext k a
  obtain ⟨c0, c1, c2, c3, c4, c5, c6, c7⟩ := a
  simp only [k0_t4_body, rowTrip, lanes, k0_part5_eq_skeleton, k0_part5_skel, k0_part6_eq_skeleton, k0_part6_skel, bind_assoc, pure_bind]
  rfl

set_option maxRecDepth 65536 in
theorem rows5_eq (L : grid0.Coords) (v2 : BitVec 32) (k0_t1 : Fin k0_t1_loop.trips) (b20 : BitVec 32) (v214_0 v214_1 v214_2 v214_3 v214_4 v214_5 v214_6 v214_7 : FVec F S16 .f32) (v230 : BitVec 32) :
    k0_t5_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 k0_t1 b20 v214_0 v214_1 v214_2 v214_3 v214_4 v214_5 v214_6 v214_7 v230
      = rowTrip L (slotOf xbV 3) (slotOf mbV 3) := by
  funext k a
  obtain ⟨c0, c1, c2, c3, c4, c5, c6, c7⟩ := a
  simp only [k0_t5_body, rowTrip, lanes, k0_part7_eq_skeleton, k0_part7_skel, k0_part8_eq_skeleton, k0_part8_skel, bind_assoc, pure_bind]
  rfl

set_option maxRecDepth 65536 in
theorem rows6_eq (L : grid0.Coords) (v2 : BitVec 32) (k0_t1 : Fin k0_t1_loop.trips) (v245_0 v245_1 v245_2 v245_3 v245_4 v245_5 v245_6 v245_7 : FVec F S16 .f32) (v261 : BitVec 32) :
    k0_t6_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 k0_t1 v245_0 v245_1 v245_2 v245_3 v245_4 v245_5 v245_6 v245_7 v261
      = rowTrip L (slotOf xbV 4) (slotOf mbV 4) := by
  funext k a
  obtain ⟨c0, c1, c2, c3, c4, c5, c6, c7⟩ := a
  simp only [k0_t6_body, rowTrip, lanes, k0_part9_eq_skeleton, k0_part9_skel, k0_part10_eq_skeleton, k0_part10_skel, bind_assoc, pure_bind]
  rfl

set_option maxRecDepth 65536 in
theorem rows7_eq (L : grid0.Coords) (v2 : BitVec 32) (v60_0 v60_1 v60_2 v60_3 v60_4 v60_5 v60_6 v60_7 : FVec F S16 .f32) :
    k0_t7_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 v60_0 v60_1 v60_2 v60_3 v60_4 v60_5 v60_6 v60_7
      = rowTrip L (slotOf xbV 0) (slotOf mbV 0) := by
  funext k a
  obtain ⟨c0, c1, c2, c3, c4, c5, c6, c7⟩ := a
  simp only [k0_t7_body, rowTrip, lanes, k0_part17_eq_skeleton, k0_part17_skel, k0_part18_eq_skeleton, k0_part18_skel, bind_assoc, pure_bind]
  rfl

set_option maxRecDepth 65536 in
theorem rows8_eq (L : grid0.Coords) (v2 : BitVec 32) (v60_0 v60_1 v60_2 v60_3 v60_4 v60_5 v60_6 v60_7 : FVec F S16 .f32) :
    k0_t8_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 v60_0 v60_1 v60_2 v60_3 v60_4 v60_5 v60_6 v60_7
      = rowTrip L (slotOf xbV 1) (slotOf mbV 1) := by
  funext k a
  obtain ⟨c0, c1, c2, c3, c4, c5, c6, c7⟩ := a
  simp only [k0_t8_body, rowTrip, lanes, k0_part19_eq_skeleton, k0_part19_skel, k0_part20_eq_skeleton, k0_part20_skel, bind_assoc, pure_bind]
  rfl

set_option maxRecDepth 65536 in
theorem rows9_eq (L : grid0.Coords) (v2 : BitVec 32) (v86_0 v86_1 v86_2 v86_3 v86_4 v86_5 v86_6 v86_7 : FVec F S16 .f32) :
    k0_t9_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 v86_0 v86_1 v86_2 v86_3 v86_4 v86_5 v86_6 v86_7
      = rowTrip L (slotOf xbV 2) (slotOf mbV 2) := by
  funext k a
  obtain ⟨c0, c1, c2, c3, c4, c5, c6, c7⟩ := a
  simp only [k0_t9_body, rowTrip, lanes, k0_part21_eq_skeleton, k0_part21_skel, k0_part22_eq_skeleton, k0_part22_skel, bind_assoc, pure_bind]
  rfl

set_option maxRecDepth 65536 in
theorem rows10_eq (L : grid0.Coords) (v2 : BitVec 32) (v86_0 v86_1 v86_2 v86_3 v86_4 v86_5 v86_6 v86_7 : FVec F S16 .f32) :
    k0_t10_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2 v86_0 v86_1 v86_2 v86_3 v86_4 v86_5 v86_6 v86_7
      = rowTrip L (slotOf xbV 3) (slotOf mbV 3) := by
  funext k a
  obtain ⟨c0, c1, c2, c3, c4, c5, c6, c7⟩ := a
  simp only [k0_t10_body, rowTrip, lanes, k0_part23_eq_skeleton, k0_part23_skel, k0_part24_eq_skeleton, k0_part24_skel, bind_assoc, pure_bind]
  rfl

set_option maxRecDepth 65536 in
theorem rows11_eq (L : grid0.Coords) :
    k0_t11_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1
      = rowTrip L (slotOf xbV 4) (slotOf mbV 4) := by
  funext k a
  obtain ⟨c0, c1, c2, c3, c4, c5, c6, c7⟩ := a
  simp only [k0_t11_body, rowTrip, lanes, k0_part25_eq_skeleton, k0_part25_skel, k0_part26_eq_skeleton, k0_part26_skel, bind_assoc, pure_bind]
  rfl

set_option maxRecDepth 65536 in
theorem ring_eq (L : grid0.Coords) (v2 : BitVec 32) :
    k0_t1_body (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 v2
      = ringP L := by
  funext t a
  obtain ⟨a0, a1, a2, a3, a4, a5, a6, a7⟩ := a
  simp only [k0_t1_body, k0_part11_eq_skeleton, k0_part11_skel, k0_part12_eq_skeleton, k0_part12_skel, k0_part13_eq_skeleton, k0_part13_skel,
    k0_part14_eq_skeleton, k0_part14_skel, k0_part15_eq_skeleton, k0_part15_skel, k0_part16_eq_skeleton, k0_part16_skel,
    rows2_eq, rows3_eq, rows4_eq, rows5_eq, rows6_eq, ringP, slotP, waitP, startP, sumP, bind_assoc, pure_bind, bind_pure]
  iterate 25 refine congrArg₂ Bind.bind rfl (funext fun _ => ?_)
  rfl

set_option maxRecDepth 65536 in
/-- The printed kernel is the tile's program. -/
theorem tile_eq (L : grid0.Coords) :
    cc0__sc_sqdist (F := F) L xV (Memref.isWhole_whole _) lV (Memref.isWhole_whole _) tV (Memref.isWhole_whole _) oV (Memref.isWhole_whole _)
      idxV (Memref.isWhole_whole _) xbV (Memref.isWhole_whole _) mbV (Memref.isWhole_whole _) accV (Memref.isWhole_whole _) cc0_scratch4 cc0_scratch5 cc0_scratch6
      cc0_scratch7 cc0_scratch8 cc0_scratch9 cc0_scratch10 cc0_scratch11 cc0_scratch12 cc0_scratch13 cc0_scoped0 cc0_scoped1 = tileP L := by
  simp only [cc0__sc_sqdist_eq_skeleton, cc0__sc_sqdist_skel, k0_part32_eq_skeleton, k0_part32_skel, k0_part31_eq_skeleton, k0_part31_skel,
    k0_part30_eq_skeleton, k0_part30_skel, k0_part29_eq_skeleton, k0_part29_skel, k0_part28_eq_skeleton, k0_part28_skel, k0_part27_eq_skeleton,
    k0_part27_skel, ring_eq, rows7_eq, rows8_eq, rows9_eq, rows10_eq, rows11_eq, tileP, lastP, waitP, startP, sumP, bind_assoc, pure_bind]
  iterate 32 refine congrArg₂ Bind.bind rfl (funext fun _ => ?_)
  rfl

end Cert.Proof.Sq

end
-- ==== Proof.Rows.lean ====
/-
  The values the tiles compute, and the run of a slot's rows through the accumulators.
-/
module

public import proofs.«01_k».proof.Proof.Body

@[expose] public section

noncomputable section

namespace Cert.Proof.Sq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it, and the proof's own resources -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev UH : Type := URounds (GSem nD τ sig) ℕ
abbrev UU : Type := UH × Counters

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The tile `L`'s thread. -/
abbrev thr (d : Dev nD) (L : grid0.Coords) : Thread nD τ := V d (cV L) (jV L)

/-! ## The values -/

/-- An element of an array of two axes, of one axis. -/
def at2 {n k : ℕ} (i : Fin n) (j : Fin k) : (Shape.mk 2 ![n, k]).Idx := fun a => match a with | 0 => i | 1 => j
def at1 {n : ℕ} (i : Fin n) : (Shape.mk 1 ![n]).Idx := fun a => match a with | 0 => i

/-- Row `n` of the inputs (counted round). -/
def inRow (n : ℕ) : Fin 320000 := ⟨n % 320000, Nat.mod_lt _ (by decide)⟩
/-- The class a label names (counted round). -/
def cls (w : BitVec 32) : Fin 10000 := ⟨w.toNat % 10000, Nat.mod_lt _ (by decide)⟩

/-- The first row of tile `L`. -/
def base (L : grid0.Coords) : ℕ := 20000 * (L 1).val + 10000 * (L 0).val

section Values

variable (x : S320000x128.Idx → Elt F .f32) (l : S320000.Idx → Elt F .i32) (u : S10000x128.Idx → Elt F .f32)

/-- Forty rows of the inputs from row `r`, and the means of their labels. -/
def gX (r : ℕ) : S40x128.Idx → Elt F .f32 := fun y => x (at2 (inRow (r + (y 0).val)) (y 1))
def gM (r : ℕ) : S40x128.Idx → Elt F .f32 := fun y => u (at2 (cls (l (at1 (inRow (r + (y 0).val))))) (y 1))
/-- The tile's labels. -/
def gL (r : ℕ) : S10000.Idx → Elt F .i32 := fun y => l (at1 (inRow (r + (y 0).val)))

variable [FloatOps F]

/-- Sixteen lanes of a row. -/
def piece (g : S40x128.Idx → Elt F .f32) (o : Fin 2 → ℕ) (h : ∀ a, o a + S1x16.size a ≤ S40x128.size a) : Vec F S1x16 .f32 :=
  fun y => g ((Rect.unit (s := S40x128) o S1x16.size h).emb y)

/-- The accumulators after row `t` of a slot. -/
def rowV (gx gm : S40x128.Idx → Elt F .f32) (t : Fin k0_t2_loop.trips) (a : Acc F) : Acc F :=
  (k0_pay1 a.1 (piece gx (k0_off5 t) (k0_off5_inb t)) (piece gm (k0_off5 t) (k0_off5_inb t)),
   k0_pay1 a.2.1 (piece gx (k0_off6 t) (k0_off6_inb t)) (piece gm (k0_off6 t) (k0_off6_inb t)),
   k0_pay1 a.2.2.1 (piece gx (k0_off7 t) (k0_off7_inb t)) (piece gm (k0_off7 t) (k0_off7_inb t)),
   k0_pay1 a.2.2.2.1 (piece gx (k0_off8 t) (k0_off8_inb t)) (piece gm (k0_off8 t) (k0_off8_inb t)),
   k0_pay1 a.2.2.2.2.1 (piece gx (k0_off9 t) (k0_off9_inb t)) (piece gm (k0_off9 t) (k0_off9_inb t)),
   k0_pay1 a.2.2.2.2.2.1 (piece gx (k0_off10 t) (k0_off10_inb t)) (piece gm (k0_off10 t) (k0_off10_inb t)),
   k0_pay1 a.2.2.2.2.2.2.1 (piece gx (k0_off11 t) (k0_off11_inb t)) (piece gm (k0_off11 t) (k0_off11_inb t)),
   k0_pay1 a.2.2.2.2.2.2.2 (piece gx (k0_off12 t) (k0_off12_inb t)) (piece gm (k0_off12 t) (k0_off12_inb t)))

/-- The accumulators after the first `n` rows of a slot. -/
def sumV (gx gm : S40x128.Idx → Elt F .f32) (a : Acc F) : ℕ → Acc F
  | 0 => a
  | n + 1 => if h : n < k0_t2_loop.trips then rowV gx gm ⟨n, h⟩ (sumV gx gm a n) else sumV gx gm a n

theorem sumV_succ (gx gm : S40x128.Idx → Elt F .f32) (a : Acc F) (t : Fin k0_t2_loop.trips) :
    sumV gx gm a (t.val + 1) = rowV gx gm t (sumV gx gm a t.val) := by rw [sumV, dif_pos t.isLt]

/-- The accumulators after the first `n` chunks of the tile whose rows start at `r`. -/
def accV' (r : ℕ) : ℕ → Acc F
  | 0 => (k0_pay71, k0_pay71, k0_pay71, k0_pay71, k0_pay71, k0_pay71, k0_pay71, k0_pay71)
  | n + 1 => sumV (gX x (r + 40 * n)) (gM l u (r + 40 * n)) (accV' r n) k0_t2_loop.trips

/-- The tile's sixteen partial sums. -/
def totV (r : ℕ) : FVec F S16 .f32 :=
  let a := accV' x l u r 250
  k0_pay82 a.1 a.2.1 a.2.2.1 a.2.2.2.1 a.2.2.2.2.1 a.2.2.2.2.2.1 a.2.2.2.2.2.2.1 a.2.2.2.2.2.2.2

end Values

/-! ## A slot's rows -/

variable [FloatOps F] (d : Dev nD) (L : grid0.Coords)

/-- A tile's points-to of a view's elements. -/
abbrev vpts {sp : Space} {s : Shape} {e : EltTy} (v : Memref sig .scVector sp s e) (q : PosShare TreeShare) (f : Buf (Elt F) (v.view.loc (thr d L))) : sProp 𝕄 :=
  v.view.loc (thr d L) ↦[v.view.set]{q} f

/-- The tile's weakest precondition. -/
abbrev wpT {α : Type} (p : TP F L α) (Q : α → sProp 𝕄) : sProp 𝕄 :=
  wp frame (wpE (defs₀ (F := F)) 𝒱₀ (thr d L) none) Set.univ p Q

theorem wp_lanes (X M : Memref sig .scVector .vmem S40x128 .f32) (o : Fin 2 → ℕ) (h : ∀ a, o a + S1x16.size a ≤ S40x128.size a)
    (a : FVec F S16 .f32) (fx : Buf (Elt F) (X.view.loc (thr d L))) (fm : Buf (Elt F) (M.view.loc (thr d L))) (Q : FVec F S16 .f32 → sProp 𝕄) :
    iprop((vpts d L X fullShare fx ∗ vpts d L M fullShare fm)
      ∗ (vpts d L X fullShare fx ∗ vpts d L M fullShare fm
          -∗ Q (k0_pay1 a (piece (X.view.read (Elt F) fx) o h) (piece (M.view.read (Elt F) fm) o h))))
      ⊢ wpT d L (lanes L X M o h a) Q := by
  unfold lanes
  simp only [Prog.lift, wp_bind]
  iintro ⟨⟨HX, HM⟩, HQ⟩
  iapply (wp_load_rect (defs := defs₀ (F := F)) 𝒱₀ (thr d L) none Set.univ (m := X) (r := Rect.unit (s := S40x128) o S1x16.size h) (S := X.view.set) (q := fullShare) (f := fx)
    (View.set_slice_subset _ _)) $$ HX
  iintro HX
  rw [wp_ret]; imodintro
  iapply (wp_load_rect (defs := defs₀ (F := F)) 𝒱₀ (thr d L) none Set.univ (m := M) (r := Rect.unit (s := S40x128) o S1x16.size h) (S := M.view.set) (q := fullShare) (f := fm)
    (View.set_slice_subset _ _)) $$ HM
  iintro HM
  rw [wp_ret]; imodintro
  rw [wp_pure, show View.read (Elt F) (X.access (Rect.unit (s := S40x128) o S1x16.size h)) fx = piece (X.view.read (Elt F) fx) o h from rfl,
    show View.read (Elt F) (M.access (Rect.unit (s := S40x128) o S1x16.size h)) fm = piece (M.view.read (Elt F) fm) o h from rfl]
  imodintro
  iapply HQ
  isplitl [HX]; · iexact HX
  iexact HM

/-- One row. -/
theorem wp_rowTrip (X M : Memref sig .scVector .vmem S40x128 .f32) (t : Fin k0_t2_loop.trips) (a : Acc F)
    (fx : Buf (Elt F) (X.view.loc (thr d L))) (fm : Buf (Elt F) (M.view.loc (thr d L))) (Q : Acc F → sProp 𝕄) :
    iprop((vpts d L X fullShare fx ∗ vpts d L M fullShare fm)
      ∗ (vpts d L X fullShare fx ∗ vpts d L M fullShare fm -∗ Q (rowV (X.view.read (Elt F) fx) (M.view.read (Elt F) fm) t a)))
      ⊢ wpT d L (rowTrip L X M t a) Q := by
  unfold rowTrip rowV
  simp only [wp_bind]
  iintro ⟨H, HQ⟩
  iterate 8
    iapply (wp_lanes d L X M _ _ _ fx fm _)
    isplitl [H]; · iexact H
    iintro H
  rw [wp_pure]; imodintro
  iapply HQ; iexact H

/-- A slot's forty rows: the accumulators go to the slot's sum over them, the buffers unchanged. -/
theorem wp_sumP (b : Fin 5) (a : Acc F) (fx : Buf (Elt F) ((slotOf xbV b).view.loc (thr d L))) (fm : Buf (Elt F) ((slotOf mbV b).view.loc (thr d L)))
    (Q : Acc F → sProp 𝕄) :
    iprop((vpts d L (slotOf xbV b) fullShare fx ∗ vpts d L (slotOf mbV b) fullShare fm)
      ∗ (vpts d L (slotOf xbV b) fullShare fx ∗ vpts d L (slotOf mbV b) fullShare fm
          -∗ Q (sumV ((slotOf xbV b).view.read (Elt F) fx) ((slotOf mbV b).view.read (Elt F) fm) a k0_t2_loop.trips)))
      ⊢ wpT d L (sumP L b a) Q := by
  refine BIBase.Entails.trans ?_ (Scf.wp_for _ _ _ k0_t2_loop.lb k0_t2_loop.ub k0_t2_loop.st k0_t2_ok a _
    (fun n a' => iprop(⌜a' = sumV ((slotOf xbV b).view.read (Elt F) fx) ((slotOf mbV b).view.read (Elt F) fm) a n⌝
      ∗ vpts d L (slotOf xbV b) fullShare fx ∗ vpts d L (slotOf mbV b) fullShare fm)) ?_)
  · iintro ⟨H, HQ⟩
    isplitl [H]
    · isplitr; · ipureintro; rfl
      iexact H
    iintro %a' ⟨%e, H⟩
    subst e
    iapply HQ; iexact H
  · intro t a'
    iintro ⟨%e, H⟩
    subst e
    iapply (wp_rowTrip d L (slotOf xbV b) (slotOf mbV b) t _ fx fm _)
    isplitl [H]; · iexact H
    iintro H
    isplitr; · ipureintro; rw [sumV_succ]
    iexact H

end Cert.Proof.Sq

end
-- ==== Proof.Slots.lean ====
/-
  A slot of the ring: its two transfers started, waited for, and what they land.
-/
module

public import proofs.«01_k».proof.Proof.Rows

@[expose] public section

noncomputable section

namespace Cert.Proof.Sq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the windows read -/

theorem base_le (L : grid0.Coords) : base L ≤ 310000 := by
  have h1 := (L 1).isLt
  have h0 := (L 0).isLt
  change (L 1).val < 16 at h1
  change (L 0).val < 2 at h0
  unfold base; omega

theorem inRow_val {n : ℕ} (h : n < 320000) : (inRow n).val = n := Nat.mod_eq_of_lt h
theorem cls_val {w : BitVec 32} (h : w.toNat < 10000) : (cls w).val = w.toNat := Nat.mod_eq_of_lt h

/-- Forty rows of the inputs, read through their window. -/
theorem read_xAt (x : S320000x128.Idx → Elt F .f32) (r : ℕ) (hr : r + 40 ≤ 320000) (o : Fin 2 → ℕ) (h : ∀ a, o a + S40x128.size a ≤ S320000x128.size a)
    (e : o = ![r, 0]) : (xAt o h).view.read (Elt F) x = gX x r := by
  subst e
  funext y
  refine congrArg x (funext fun a => Fin.ext ?_)
  have hy : (y 0).val < 40 := (y 0).isLt
  match a with
  | 0 => exact (show r + 1 * (y 0).val = (inRow (r + (y 0).val)).val by rw [inRow_val (by omega)]; omega)
  | 1 => exact (show 0 + 1 * (y 1).val = (y 1).val by omega)

/-- The tile's labels, read through their window. -/
theorem read_lTile (l : S320000.Idx → Elt F .i32) (L : grid0.Coords) : (lTile L).view.read (Elt F) l = gL l (base L) := by
  funext y
  refine congrArg l (funext fun a => Fin.ext ?_)
  have hy : (y 0).val < 10000 := (y 0).isLt
  have hb := base_le L
  match a with
  | 0 => exact (show k0_off1 L 0 + 1 * (y 0).val = (inRow (base L + (y 0).val)).val by
      rw [inRow_val (by omega), k0_off1_eq]
      show 20000 * (L 1).val + 10000 * (L 0).val + 1 * (y 0).val = 20000 * (L 1).val + 10000 * (L 0).val + (y 0).val
      omega)

/-- Forty of the tile's labels, read through their window. -/
theorem read_lAt (l : S320000.Idx → Elt F .i32) (r n : ℕ) (o : Fin 1 → ℕ) (h : ∀ a, o a + S40.size a ≤ S10000.size a)
    (e : o = ![n]) (y : S40.Idx) : (lAt o h).view.read (Elt F) (gL l r) y = l (at1 (inRow (r + n + (y 0).val))) := by
  subst e
  show l (at1 (inRow (r + (n + 1 * (y 0).val)))) = _
  rw [show r + (n + 1 * (y 0).val) = r + n + (y 0).val by omega]

/-- The entry of a list of forty that its place names. -/
theorem list_place (k : Fin S40.numel) : ((S40.rowMajor.symm k) 0).val = k.val := by
  rw [← Shape.rowMajor_val_one (S40.rowMajor.symm k)]
  exact congrArg Fin.val (S40.rowMajor.apply_symm_apply k)

/-- The rows the labels name, gathered. -/
theorem gather_eq (l : S320000.Idx → Elt F .i32) (u : S10000x128.Idx → Elt F .f32) (hl : ∀ i, (l i).toNat < 10000) (r n : ℕ)
    (o : Fin 1 → ℕ) (h : ∀ a, o a + S40.size a ≤ S10000.size a) (e : o = ![n])
    (hin : ∀ y, ((lAt o h).view.read (Elt F) (gL l r) y).toNat < S10000x128.size gathers_S10000x128_S40x128.axis) :
    SparseCore.gatherPayload gathers_S10000x128_S40x128 (tAll.view.read (Elt F) u)
      (SparseCore.rows ((lAt o h).view.read (Elt F) (gL l r)) rfl hin) = gM l u (r + n) := by
  funext y
  refine congrArg u (funext fun a => Fin.ext ?_)
  match a with
  | 0 =>
    refine (show 0 + 1 * ((lAt o h).view.read (Elt F) (gL l r) (S40.rowMajor.symm ((y 0).cast rfl))).toNat = (cls (l (at1 (inRow (r + n + (y 0).val))))).val from ?_)
    rw [read_lAt l r n o h e, list_place, cls_val (hl _), Nat.one_mul, Nat.zero_add]
    rfl
  | 1 => exact (show 0 + 1 * (y 1).val = (y 1).val by omega)

/-! ## A slot's resources -/

section Slot

variable [FloatOps F] (d : Dev nD) (L : grid0.Coords)
variable (x : S320000x128.Idx → Elt F .f32) (l : S320000.Idx → Elt F .i32) (u : S10000x128.Idx → Elt F .f32)
variable (qx qu ql : PosShare TreeShare)

/-- A tile's points-to of all of an array, and of some of its elements. -/
abbrev apts {sp : Space} {s : Shape} {e : EltTy} (v : Memref sig .scVector sp s e) (q : PosShare TreeShare) (f : Buf (Elt F) (v.view.loc (thr d L))) : sProp 𝕄 :=
  v.view.loc (thr d L) ↦{q} f
abbrev ipts {sp : Space} {s : Shape} {e : EltTy} (v : Memref sig .scVector sp s e) (I : Finset (Idx (v.view.loc (thr d L)))) (q : PosShare TreeShare)
    (f : Buf (Elt F) (v.view.loc (thr d L))) : sProp 𝕄 :=
  v.view.loc (thr d L) ↦[I]{q} f

/-- What a slot's transfers read: a share of the inputs, of the means, and of the tile's labels. -/
def reads : sProp 𝕄 := iprop(apts d L xV qx x ∗ apts d L tV qu u ∗ apts d L idxV ql (gL l (base L)))

/-- The cells of slot `b`'s semaphores. -/
abbrev cellX (b : Fin 5) : GSem nD τ sig := (thr d L, .dma (semX b))
abbrev cellM (b : Fin 5) : GSem nD τ sig := (thr d L, .dma (semM b))

/-- Slot `b` with no transfer under way. -/
def idle (b : Fin 5) : sProp 𝕄 :=
  iprop((∃ fx, vpts d L (slotOf xbV b) fullShare fx) ∗ (∃ fm, vpts d L (slotOf mbV b) fullShare fm)
    ∗ reads d L x l u qx qu ql ∗ semVal (cellX d L b) 0 ∗ semVal (cellM d L b) 0)

/-- Slot `b` with the transfers of the forty rows from row `base + n` under way. -/
def busy (b : Fin 5) (n : ℕ) : sProp 𝕄 :=
  iprop(∃ (fx : Buf (Elt F) ((slotOf xbV b).view.loc (thr d L))) (fm : Buf (Elt F) ((slotOf mbV b).view.loc (thr d L)))
      (I : Finset (Idx (xV.view.loc (thr d L)))) (J : Finset (Idx (tV.view.loc (thr d L)))) (H : Finset (Idx (idxV.view.loc (thr d L)))),
    Transfers.Flight countersEmb (thr d L) (.dma (semX b)) (default : HIx 1) (slotOf xbV b).view.dmaCredit
        iprop(vpts d L (slotOf xbV b) fullShare ((slotOf xbV b).view.write (Elt F) fx (gX x (base L + n)) Finset.univ) ∗ ipts d L xV I qx x)
    ∗ Transfers.Flight countersEmb (thr d L) (.dma (semM b)) (default : HIx 1) (slotOf mbV b).view.dmaCredit
        iprop(vpts d L (slotOf mbV b) fullShare ((slotOf mbV b).view.write (Elt F) fm (gM l u (base L + n)) Finset.univ)
          ∗ ipts d L tV J qu u ∗ ipts d L idxV H ql (gL l (base L)))
    ∗ ipts d L xV (Finset.univ \ I) qx x ∗ ipts d L tV (Finset.univ \ J) qu u ∗ ipts d L idxV (Finset.univ \ H) ql (gL l (base L)))

/-- Slot `b` with those rows landed. -/
def landed (b : Fin 5) (n : ℕ) : sProp 𝕄 :=
  iprop(∃ fx fm, ⌜(slotOf xbV b).view.read (Elt F) fx = gX x (base L + n) ∧ (slotOf mbV b).view.read (Elt F) fm = gM l u (base L + n)⌝
    ∗ (vpts d L (slotOf xbV b) fullShare fx ∗ vpts d L (slotOf mbV b) fullShare fm)
    ∗ reads d L x l u qx qu ql ∗ semVal (cellX d L b) 0 ∗ semVal (cellM d L b) 0)

theorem landed_idle (b : Fin 5) (n : ℕ) : landed d L x l u qx qu ql b n ⊢ idle d L x l u qx qu ql b := by
  unfold landed idle
  iintro ⟨%fx, %fm, -, ⟨HX, HM⟩, HR, HcX, HcM⟩
  isplitl [HX]; · iexists fx; iexact HX
  isplitl [HM]; · iexists fm; iexact HM
  isplitl [HR]; · iexact HR
  isplitl [HcX]; · iexact HcX
  iexact HcM

/-- The rows' amounts sum to the slot's. -/
theorem rows_amount (b : Fin 5) :
    ∑ j, ((slotOf mbV b).slice (S40x128.rowRect gathers_S10000x128_S40x128.axis' j) (S40x128.stride_rowRect gathers_S10000x128_S40x128.axis' j)).view.dmaCredit
      = (slotOf mbV b).view.dmaCredit := SparseCore.sum_rowCredit_eq_dmaCredit _ _ fun _ => rfl

theorem startP_eq (b : Fin 5) (ox : Fin 2 → ℕ) (hx : ∀ a, ox a + S40x128.size a ≤ S320000x128.size a)
    (ol : Fin 1 → ℕ) (hol : ∀ a, ol a + S40.size a ≤ S10000.size a) :
    startP (F := F) L b ox hx ol hol
      = (do
        Prog.lift (.enqueueDma (xAt ox hx) (.here (slotOf xbV b)) (.dma (semX b)) (View.wordExact_bits rfl) ((View.wordExact_bits rfl).reshape _ _) ⟨Or.inl rfl, trivial⟩)
        SparseCore.enqueueIndirectGather rfl tAll (slotOf mbV b) gathers_S10000x128_S40x128 (lAt ol hol) rfl (semM b) (View.wordExact_bits rfl) rfl (Or.inl rfl)
        pure ⟨⟩ : TP F L PUnit) := by
  simp only [startP, bind_pure_unit]

/-- Starting a slot's transfers. -/
theorem wp_startP (hl : ∀ i, (l i).toNat < 10000) (b : Fin 5) (n : ℕ) (hn : n + 40 ≤ 10000) (ox : Fin 2 → ℕ) (hx : ∀ a, ox a + S40x128.size a ≤ S320000x128.size a)
    (ol : Fin 1 → ℕ) (hol : ∀ a, ol a + S40.size a ≤ S10000.size a) (ex : ox = ![base L + n, 0]) (el : ol = ![n]) (Q : PUnit → sProp 𝕄) :
    iprop(idle d L x l u qx qu ql b ∗ (busy d L x l u qx qu ql b n -∗ Q ⟨⟩)) ⊢ wpT d L (startP L b ox hx ol hol) Q := by
  have hin : ∀ y, ((lAt ol hol).view.read (Elt F) (gL l (base L)) y).toNat < S10000x128.size gathers_S10000x128_S40x128.axis := by
    intro y; rw [read_lAt l (base L) n ol hol el]; exact hl _
  rw [startP_eq]
  unfold idle reads
  simp only [wp_bind]
  iintro ⟨⟨⟨%fx, HX⟩, ⟨%fm, HM⟩, ⟨Hx, Hu, Hl⟩, HcX, HcM⟩, HQ⟩
  ihave Hx := (pointsTo_split_subset (Finset.subset_univ (xAt ox hx).view.set)).1 $$ Hx
  ihave Hu := (pointsTo_split_subset (Finset.subset_univ (tAll).view.set)).1 $$ Hu
  ihave Hl := (pointsTo_split_subset (Finset.subset_univ (lAt ol hol).view.set)).1 $$ Hl
  icases Hx with ⟨Hx, Hxr⟩
  icases Hu with ⟨Hu, Hur⟩
  icases Hl with ⟨Hl, Hlr⟩
  iapply (Transfers.wp_dmaLocal (defs := defs₀ (F := F)) countersEmb 𝒱₀ (thr d L) none (src := xAt ox hx) (dst := slotOf xbV b) (sm := .dma (semX b)) (q := qx) (fs := x) (fd := fx)
    (Sd := (slotOf xbV b).view.set) (default : HIx 1) (slotOf xbV b).view.dmaCredit rfl (View.dmaCredit_pos _ (by decide)) (Finset.Subset.refl _)) $$ [Hx HX HcX]
  · isplitl [Hx]; · iexact Hx
    isplitl [HX]; · iexact HX
    iexact HcX
  iintro HfX
  rw [wp_ret]; imodintro
  rw [← wp_bind]
  iapply (SparseCore.wp_indirectGatherLocal (defs := defs₀ (F := F)) countersEmb 𝒱₀ (thr d L) none (src := tAll) (dst := slotOf mbV b) (offs := lAt ol hol) (sem := semM b)
    (hg := gathers_S10000x128_S40x128) (hn := rfl) (q := qu) (qo := ql) (fs := u) (fd := fm) (fo := gL l (base L))
    (default : HIx 1) (slotOf mbV b).view.dmaCredit (rows_amount b) (by decide) hin) $$ [Hu HM Hl HcM]
  · isplitl [Hu]; · iexact Hu
    isplitl [HM]; · iexact HM
    isplitl [Hl]; · iexact Hl
    iexact HcM
  iintro HfM
  rw [wp_pure]; imodintro
  iapply HQ
  unfold busy
  iexists fx, fm, (xAt ox hx).view.set, (tAll).view.set, (lAt ol hol).view.set
  rw [← read_xAt x (base L + n) (by have := base_le L; omega) ox hx ex, ← gather_eq l u hl (base L) n ol hol el hin]
  isplitl [HfX]; · iexact HfX
  isplitl [HfM]; · iexact HfM
  isplitl [Hxr]; · iexact Hxr
  isplitl [Hur]; · iexact Hur
  iexact Hlr

variable (O : CellTallies nD τ sig (HIx 1)) (W : Waits sig (HIx 1))

/-- What a wait needs and leaves: the evidence that the tile may wait, and its record of the waits it has answered. -/
def wt : sProp 𝕄 :=
  iprop(Transfers.MayWaits (thr d L) (default : HIx 1) O ∗ ∃ W', ⌜∀ p ∈ W', p ∈ W ∨ p.2 = none⌝ ∗ owes (thr d L) O W')

/-- One wait, of a transfer that delivers `D`. -/
theorem wp_wait1 {sp : Space} {s : Shape} {e : EltTy} {sp' : Space} {s' : Shape} {e' : EltTy} (sem : DmaSem sig) (src : Memref sig .scVector sp' s' e')
    (dst : Memref sig .scVector sp s e) (hsrc : src.view.WordExact) (hdst : dst.view.WordExact) (D : sProp 𝕄) (N : ℕ) (hN : dst.view.dmaCredit = N)
    (k : PUnit → TP F L PUnit) (Q : PUnit → sProp 𝕄) :
    iprop(Transfers.Flight countersEmb (thr d L) (.dma sem) (default : HIx 1) N D ∗ wt d L O W
      ∗ (D ∗ semVal (thr d L, .dma sem) 0 ∗ wt d L O W -∗ wp frame (wpE (defs₀ (F := F)) 𝒱₀ (thr d L) none) Set.univ (k ⟨⟩) Q))
      ⊢ wpT d L (.op (.waitDma2 sem src dst hsrc hdst) k) Q := by
  unfold wt
  iintro ⟨Hf, ⟨#Hmw, %W', %hW', HO⟩, HQ⟩
  iapply (Transfers.wp_waitLocalO (defs := defs₀ (F := F)) countersEmb 𝒱₀ (thr d L) none (srcw := src) (dstw := dst) (default : HIx 1) hN) $$ [Hf HO]
  · isplitl [Hf]; · iexact Hf
    isplitl [HO]; · iexact HO
    iapply (Transfers.MayWaits.elim (SemLoc.dma sem)) $$ Hmw
  iintro ⟨HD, Hc, HO⟩
  iapply HQ
  isplitl [HD]; · iexact HD
  isplitl [Hc]; · iexact Hc
  isplitr; · iexact Hmw
  iexists _; isplitr
  swap; · iexact HO
  ipureintro; intro p hp
  rcases Finset.mem_insert.mp hp with hp | hp; · exact .inr (hp ▸ rfl)
  exact hW' p hp

/-- Waiting for a slot's transfers. -/
theorem wp_waitP (b : Fin 5) (n : ℕ) (ox : Fin 2 → ℕ) (hx : ∀ a, ox a + S40x128.size a ≤ S320000x128.size a) (Q : PUnit → sProp 𝕄) :
    iprop(busy d L x l u qx qu ql b n ∗ wt d L O W ∗ (landed d L x l u qx qu ql b n ∗ wt d L O W -∗ Q ⟨⟩)) ⊢ wpT d L (waitP L b ox hx) Q := by
  unfold waitP busy SparseCore.waitIndirectGather
  simp only [wp_bind, Prog.lift]
  iintro ⟨⟨%fx, %fm, %I, %J, %H, HfX, HfM, Hxr, Hur, Hlr⟩, Hwt, HQ⟩
  iapply (wp_wait1 d L O W (semX b) (xAt ox hx) (slotOf xbV b) _ _ _ _ rfl)
  isplitl [HfX]; · iexact HfX
  isplitl [Hwt]; · iexact Hwt
  iintro ⟨⟨HX, Hx⟩, HcX, Hwt⟩
  rw [wp_ret]; imodintro
  iapply (wp_wait1 d L O W (semM b) tAll (slotOf mbV b) _ _ _ _ rfl)
  isplitl [HfM]; · iexact HfM
  isplitl [Hwt]; · iexact Hwt
  iintro ⟨⟨HM, Hu, Hl⟩, HcM, Hwt⟩
  rw [wp_ret]; imodintro
  iapply HQ
  isplitr [Hwt]
  swap; · iexact Hwt
  unfold landed reads
  iexists (slotOf xbV b).view.write (Elt F) fx (gX x (base L + n)) Finset.univ, (slotOf mbV b).view.write (Elt F) fm (gM l u (base L + n)) Finset.univ
  isplitr
  · ipureintro; exact ⟨View.read_write_univ _ _, View.read_write_univ _ _⟩
  isplitl [HX HM]
  · isplitl [HX]; · iexact HX
    iexact HM
  isplitl [Hx Hxr Hu Hur Hl Hlr]
  · isplitl [Hx Hxr]
    · iapply (pointsTo_split_subset (Finset.subset_univ I)).2
      isplitl [Hx]; · iexact Hx
      iexact Hxr
    isplitl [Hu Hur]
    · iapply (pointsTo_split_subset (Finset.subset_univ J)).2
      isplitl [Hu]; · iexact Hu
      iexact Hur
    iapply (pointsTo_split_subset (Finset.subset_univ H)).2
    isplitl [Hl]; · iexact Hl
    iexact Hlr
  isplitl [HcX]; · iexact HcX
  iexact HcM

/-- Waiting for a slot's chunk `c` and summing it: the accumulators go from the first `c` chunks' to the first `c + 1`'s. -/
theorem wp_waitSum (b : Fin 5) (c : ℕ) (ox : Fin 2 → ℕ) (hx : ∀ a, ox a + S40x128.size a ≤ S320000x128.size a) (Q : Acc F → sProp 𝕄) :
    iprop(busy d L x l u qx qu ql b (40 * c) ∗ wt d L O W
      ∗ (idle d L x l u qx qu ql b ∗ wt d L O W -∗ Q (accV' x l u (base L) (c + 1))))
      ⊢ wpT d L (waitP L b ox hx) fun _ => wpT d L (sumP L b (accV' x l u (base L) c)) Q := by
  iintro ⟨Hb, Hwt, HQ⟩
  iapply (wp_waitP d L x l u qx qu ql O W b (40 * c) ox hx)
  isplitl [Hb]; · iexact Hb
  isplitl [Hwt]; · iexact Hwt
  iintro ⟨Hld, Hwt⟩
  unfold landed
  icases Hld with ⟨%fx, %fm, %e, HXM, HR, HcX, HcM⟩
  iapply (wp_sumP d L b _ fx fm)
  isplitl [HXM]; · iexact HXM
  iintro HXM
  rw [e.1, e.2, show sumV (gX x (base L + 40 * c)) (gM l u (base L + 40 * c)) (accV' x l u (base L) c) k0_t2_loop.trips = accV' x l u (base L) (c + 1) from rfl]
  iapply HQ
  isplitr [Hwt]
  swap; · iexact Hwt
  iapply (landed_idle d L x l u qx qu ql b (40 * c))
  unfold landed
  iexists fx, fm
  isplitr; · ipureintro; exact e
  isplitl [HXM]; · iexact HXM
  isplitl [HR]; · iexact HR
  isplitl [HcX]; · iexact HcX
  iexact HcM

/-- A slot in a turn of the ring: its chunk summed, the chunk five further started. -/
theorem wp_slotP (hl : ∀ i, (l i).toNat < 10000) (t : Fin k0_t1_loop.trips) (b : Fin 5) (c c' c'' : ℕ) (hc : c = 5 * t.val + b.val) (hc' : c' = c + 1)
    (hc'' : c'' = c + 5) (Q : Acc F → sProp 𝕄) :
    iprop(busy d L x l u qx qu ql b (40 * c) ∗ wt d L O W
      ∗ (busy d L x l u qx qu ql b (40 * c'') ∗ wt d L O W -∗ Q (accV' x l u (base L) c')))
      ⊢ wpT d L (slotP L t b (accV' x l u (base L) c)) Q := by
  subst hc' hc''
  unfold slotP
  simp only [wp_bind]
  iintro ⟨Hb, Hwt, HQ⟩
  iapply (wp_waitSum d L x l u qx qu ql O W b c)
  isplitl [Hb]; · iexact Hb
  isplitl [Hwt]; · iexact Hwt
  iintro ⟨Hi, Hwt⟩
  have ht : t.val < 49 := t.isLt
  have hb : b.val < 5 := b.isLt
  iapply (wp_startP d L x l u qx qu ql hl b (40 * (c + 5)) (by omega) _ _ _ _
    (by rw [k0_off13_eq, hc]; exact congrArg (fun z => ![z, 0]) (show _ = (20000 * (L 1).val + 10000 * (L 0).val) + _ by omega))
    (by rw [k0_off14_eq, hc]; exact congrArg (fun z => ![z]) (by omega)))
  isplitl [Hi]; · iexact Hi
  iintro Hb
  rw [wp_pure]; imodintro
  iapply HQ
  isplitl [Hb]; · iexact Hb
  iexact Hwt

/-- A slot after the ring. -/
theorem wp_lastP (b : Fin 5) (c c' : ℕ) (hc' : c' = c + 1) (o : BitVec 32) (h : ∀ a, k0_off2 L o a + S40x128.size a ≤ S320000x128.size a) (Q : Acc F → sProp 𝕄) :
    iprop(busy d L x l u qx qu ql b (40 * c) ∗ wt d L O W
      ∗ (idle d L x l u qx qu ql b ∗ wt d L O W -∗ Q (accV' x l u (base L) c')))
      ⊢ wpT d L (lastP L b o h (accV' x l u (base L) c)) Q := by
  subst hc'
  unfold lastP
  simp only [wp_bind]
  exact wp_waitSum d L x l u qx qu ql O W b c _ _ Q

end Slot

/-! ## The ring -/

/-- Slot `b`'s part of a share. -/
def sh (q : PosShare TreeShare) (b : Fin 5) : PosShare TreeShare :=
  match b with
  | 0 => q.left | 1 => q.right.left | 2 => q.right.right.left | 3 => q.right.right.right.left | 4 => q.right.right.right.right

section Ring

variable [FloatOps F] (d : Dev nD) (L : grid0.Coords)
variable (x : S320000x128.Idx → Elt F .f32) (l : S320000.Idx → Elt F .i32) (u : S10000x128.Idx → Elt F .f32)
variable (qx qu ql : PosShare TreeShare) (O : CellTallies nD τ sig (HIx 1)) (W : Waits sig (HIx 1))

abbrev busyS (b : Fin 5) (c : ℕ) : sProp 𝕄 := busy d L x l u (sh qx b) (sh qu b) (sh ql b) b (40 * c)
abbrev idleS (b : Fin 5) : sProp 𝕄 := idle d L x l u (sh qx b) (sh qu b) (sh ql b) b

/-- The five slots with five chunks from `c` under way. -/
def fly (c : ℕ) : sProp 𝕄 :=
  iprop(busyS d L x l u qx qu ql 0 c ∗ busyS d L x l u qx qu ql 1 (c + 1) ∗ busyS d L x l u qx qu ql 2 (c + 2)
    ∗ busyS d L x l u qx qu ql 3 (c + 3) ∗ busyS d L x l u qx qu ql 4 (c + 4))

/-- The five slots with nothing under way. -/
def rest : sProp 𝕄 :=
  iprop(idleS d L x l u qx qu ql 0 ∗ idleS d L x l u qx qu ql 1 ∗ idleS d L x l u qx qu ql 2 ∗ idleS d L x l u qx qu ql 3 ∗ idleS d L x l u qx qu ql 4)

theorem wp_ringP (hl : ∀ i, (l i).toNat < 10000) (t : Fin k0_t1_loop.trips) (Q : Acc F → sProp 𝕄) :
    iprop(fly d L x l u qx qu ql (5 * t.val) ∗ wt d L O W
      ∗ (fly d L x l u qx qu ql (5 * (t.val + 1)) ∗ wt d L O W -∗ Q (accV' x l u (base L) (5 * (t.val + 1)))))
      ⊢ wpT d L (ringP L t (accV' x l u (base L) (5 * t.val))) Q := by
  unfold ringP fly
  simp only [wp_bind]
  iintro ⟨⟨H0, H1, H2, H3, H4⟩, Hwt, HQ⟩
  iapply (wp_slotP d L x l u _ _ _ O W hl t 0 (5 * t.val) (5 * t.val + 1) (5 * (t.val + 1)) rfl rfl (by omega))
  isplitl [H0]; · iexact H0
  isplitl [Hwt]; · iexact Hwt
  iintro ⟨H0, Hwt⟩
  iapply (wp_slotP d L x l u _ _ _ O W hl t 1 (5 * t.val + 1) (5 * t.val + 2) (5 * (t.val + 1) + 1) rfl rfl (by omega))
  isplitl [H1]; · iexact H1
  isplitl [Hwt]; · iexact Hwt
  iintro ⟨H1, Hwt⟩
  iapply (wp_slotP d L x l u _ _ _ O W hl t 2 (5 * t.val + 2) (5 * t.val + 3) (5 * (t.val + 1) + 2) rfl rfl (by omega))
  isplitl [H2]; · iexact H2
  isplitl [Hwt]; · iexact Hwt
  iintro ⟨H2, Hwt⟩
  iapply (wp_slotP d L x l u _ _ _ O W hl t 3 (5 * t.val + 3) (5 * t.val + 4) (5 * (t.val + 1) + 3) rfl rfl (by omega))
  isplitl [H3]; · iexact H3
  isplitl [Hwt]; · iexact Hwt
  iintro ⟨H3, Hwt⟩
  iapply (wp_slotP d L x l u _ _ _ O W hl t 4 (5 * t.val + 4) (5 * (t.val + 1)) (5 * (t.val + 1) + 4) rfl (by omega) (by omega))
  isplitl [H4]; · iexact H4
  isplitl [Hwt]; · iexact Hwt
  iintro ⟨H4, Hwt⟩
  iapply HQ
  isplitr [Hwt]
  swap; · iexact Hwt
  isplitl [H0]; · iexact H0
  isplitl [H1]; · iexact H1
  isplitl [H2]; · iexact H2
  isplitl [H3]; · iexact H3
  iexact H4

/-- The ring, all its turns. -/
theorem wp_ring (hl : ∀ i, (l i).toNat < 10000) (Q : Acc F → sProp 𝕄) :
    iprop(fly d L x l u qx qu ql 0 ∗ wt d L O W
      ∗ (fly d L x l u qx qu ql 245 ∗ wt d L O W -∗ Q (accV' x l u (base L) 245)))
      ⊢ wpT d L (Scf.Loop.for k0_t1_loop k0_t1_ok (k0_pay71 (F := F), k0_pay71 (F := F), k0_pay71 (F := F), k0_pay71 (F := F), k0_pay71 (F := F), k0_pay71 (F := F), k0_pay71 (F := F), k0_pay71 (F := F)) (ringP L)) Q := by
  refine BIBase.Entails.trans ?_ (Scf.wp_for _ _ _ k0_t1_loop.lb k0_t1_loop.ub k0_t1_loop.st k0_t1_ok _ _
    (fun n a => iprop(⌜a = accV' x l u (base L) (5 * n)⌝ ∗ fly d L x l u qx qu ql (5 * n) ∗ wt d L O W)) ?_)
  · iintro ⟨Hf, Hwt, HQ⟩
    isplitl [Hf Hwt]
    · isplitr; · ipureintro; rfl
      isplitl [Hf]; · iexact Hf
      iexact Hwt
    iintro %a ⟨%e, Hf, Hwt⟩
    subst e
    rw [show 5 * Scf.trips k0_t1_loop.lb k0_t1_loop.ub k0_t1_loop.st = 245 from rfl]
    iapply HQ
    isplitl [Hf]; · iexact Hf
    iexact Hwt
  · intro t a
    iintro ⟨%e, Hf, Hwt⟩
    subst e
    iapply (wp_ringP d L x l u qx qu ql O W hl t)
    isplitl [Hf]; · iexact Hf
    isplitl [Hwt]; · iexact Hwt
    iintro ⟨Hf, Hwt⟩
    isplitr; · ipureintro; rfl
    isplitl [Hf]; · iexact Hf
    iexact Hwt

end Ring

end Cert.Proof.Sq

end
-- ==== Proof.Tile.lean ====
/-
  A tile's run, from its parts of the arrays and its own memory to its row of the partial sums.
-/
module

public import proofs.«01_k».proof.Proof.Slots

@[expose] public section

noncomputable section

namespace Cert.Proof.Sq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Named members of a family -/

/-- Named members apart from the others. -/
theorem bigSep_pick {I : Type} [DecidableEq I] {n : ℕ} (A : Finset I) (f : Fin n → I) (hf : Function.Injective f) (hA : ∀ k, f k ∈ A) (Φ : I → sProp 𝕄) :
    bigSep A Φ = iprop((bigSep Finset.univ fun k => Φ (f k)) ∗ bigSep (A \ Finset.univ.map ⟨f, hf⟩) Φ) := by
  rw [SparseCore.bigSep_sdiff_split' (s := A) (t := Finset.univ.map ⟨f, hf⟩) (fun i hi => by
    obtain ⟨k, -, rfl⟩ := Finset.mem_map.mp hi
    exact hA k), bigSep_map]
  rfl

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

/-- A share in the five slots' parts. -/
theorem pts_five {ℓ : Loc nD τ sig} (I : Finset (Idx ℓ)) (q : PosShare TreeShare) (f : Buf (Elt F) ℓ) :
    (ℓ ↦[I]{q} f : sProp 𝕄) = iprop((ℓ ↦[I]{sh q 0} f) ∗ (ℓ ↦[I]{sh q 1} f) ∗ (ℓ ↦[I]{sh q 2} f) ∗ (ℓ ↦[I]{sh q 3} f) ∗ ℓ ↦[I]{sh q 4} f) := by
  have h : ∀ q : PosShare TreeShare, (ℓ ↦[I]{q} f : sProp 𝕄) = iprop((ℓ ↦[I]{q.left} f) ∗ ℓ ↦[I]{q.right} f) := fun q =>
    BI.Entails.antisymm (pointsTo_share (PosShare.mem_left_op_right q)).1 (pointsTo_share (PosShare.mem_left_op_right q)).2
  rw [h q, h q.right, h q.right.right, h q.right.right.right]
  rfl

/-! ## The slots of a buffer -/

theorem five_dvd : 5 ∣ S5x40x128.size 0 := ⟨1, rfl⟩

/-- The elements of slot `b`. -/
abbrev slotSet (b : Fin 5) : Finset S5x40x128.Idx := (Rect.unit (s := S5x40x128) ![b.val, 0, 0] S1x40x128.size (slot_inb b)).set

theorem slotSet_eq (b : Fin 5) : slotSet b = (Rect.part (s := S5x40x128) (a₀ := 0) five_dvd b).set := by
  refine congrArg (fun r : Rect S5x40x128 => r.set) ?_
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem slots_disjoint : ∀ i ∈ (Finset.univ : Finset (Fin 5)), ∀ j ∈ (Finset.univ : Finset (Fin 5)), i ≠ j → Disjoint (slotSet i) (slotSet j) :=
  fun i _ j _ h => by rw [slotSet_eq, slotSet_eq]; exact Rect.part_disjoint five_dvd h
theorem slots_cover : (Finset.univ : Finset (Fin 5)).biUnion slotSet = Finset.univ :=
  (Finset.biUnion_congr rfl fun i _ => slotSet_eq i).trans (Rect.biUnion_part five_dvd)

theorem set_slotX (b : Fin 5) : (slotOf xbV b).view.set = slotSet b := by
  show (((View.whole cc0_scratch1).slice _).reshape S40x128 _).set = _
  rw [View.set_reshape, View.set_slice_whole]
theorem set_slotM (b : Fin 5) : (slotOf mbV b).view.set = slotSet b := by
  show (((View.whole cc0_scratch2).slice _).reshape S40x128 _).set = _
  rw [View.set_reshape, View.set_slice_whole]

section Tile

variable [FloatOps F] (d : Dev nD) (L : grid0.Coords)

theorem splitX (f : Buf (Elt F) (xbV.view.loc (thr d L))) :
    apts d L xbV fullShare f ⊢ bigSep Finset.univ fun b : Fin 5 => iprop(∃ g : Buf (Elt F) ((slotOf xbV b).view.loc (thr d L)), vpts d L (slotOf xbV b) fullShare g) := by
  unfold apts
  rw [← slots_cover, pointsTo_biUnion Finset.univ (ℓ := xbV.view.loc (thr d L)) slotSet slots_disjoint]
  have h : ∀ b : Fin 5, (xbV.view.loc (thr d L) ↦[slotSet b]{fullShare} f : sProp 𝕄)
      ⊢ iprop(∃ g : Buf (Elt F) ((slotOf xbV b).view.loc (thr d L)), vpts d L (slotOf xbV b) fullShare g) := fun b => by
    iintro H
    iexists f
    unfold vpts
    rw [set_slotX]
    iexact H
  exact bigSep_mono fun b _ => h b

theorem splitM (f : Buf (Elt F) (mbV.view.loc (thr d L))) :
    apts d L mbV fullShare f ⊢ bigSep Finset.univ fun b : Fin 5 => iprop(∃ g : Buf (Elt F) ((slotOf mbV b).view.loc (thr d L)), vpts d L (slotOf mbV b) fullShare g) := by
  unfold apts
  rw [← slots_cover, pointsTo_biUnion Finset.univ (ℓ := mbV.view.loc (thr d L)) slotSet slots_disjoint]
  have h : ∀ b : Fin 5, (mbV.view.loc (thr d L) ↦[slotSet b]{fullShare} f : sProp 𝕄)
      ⊢ iprop(∃ g : Buf (Elt F) ((slotOf mbV b).view.loc (thr d L)), vpts d L (slotOf mbV b) fullShare g) := fun b => by
    iintro H
    iexists f
    unfold vpts
    rw [set_slotM]
    iexact H
  exact bigSep_mono fun b _ => h b

/-- Five slots' elements, each at some contents, are the whole at some. -/
theorem joinSlots {ℓ : Loc nD τ sig} (K : Fin 5 → Finset (Idx ℓ)) (hd : ∀ i ∈ (Finset.univ : Finset (Fin 5)), ∀ j ∈ (Finset.univ : Finset (Fin 5)), i ≠ j → Disjoint (K i) (K j))
    (hc : (Finset.univ : Finset (Fin 5)).biUnion K = Finset.univ) :
    (bigSep Finset.univ fun b : Fin 5 => iprop(∃ g : Buf (Elt F) ℓ, ℓ ↦[K b]{fullShare} g)) ⊢ (iprop(∃ g : Buf (Elt F) ℓ, ℓ ↦{fullShare} g) : sProp 𝕄) := by
  rw [bigSep_five]
  iintro ⟨⟨%g0, H0⟩, ⟨%g1, H1⟩, ⟨%g2, H2⟩, ⟨%g3, H3⟩, ⟨%g4, H4⟩⟩
  ihave H := (pointsTo_biUnion_join (ℓ := ℓ) (q := fullShare) (Val := Elt F) Finset.univ K (fun b => match b with | 0 => g0 | 1 => g1 | 2 => g2 | 3 => g3 | 4 => g4) g0 hd) $$ [H0 H1 H2 H3 H4]
  · rw [bigSep_five]
    isplitl [H0]; · iexact H0
    isplitl [H1]; · iexact H1
    isplitl [H2]; · iexact H2
    isplitl [H3]; · iexact H3
    iexact H4
  icases H with ⟨%g, -, Hg⟩
  rw [hc]
  iexists g; iexact Hg

theorem joinX : (bigSep Finset.univ fun b : Fin 5 => iprop(∃ g : Buf (Elt F) ((slotOf xbV b).view.loc (thr d L)), vpts d L (slotOf xbV b) fullShare g)) ⊢ (iprop(∃ f : Buf (Elt F) (xbV.view.loc (thr d L)), apts d L xbV fullShare f) : sProp 𝕄) := by
  refine BIBase.Entails.trans (Entails.of_eq (bigSep_congr fun b _ => ?_)) (joinSlots (F := F) (ℓ := xbV.view.loc (thr d L)) slotSet slots_disjoint slots_cover)
  unfold vpts
  rw [set_slotX]
theorem joinM : (bigSep Finset.univ fun b : Fin 5 => iprop(∃ g : Buf (Elt F) ((slotOf mbV b).view.loc (thr d L)), vpts d L (slotOf mbV b) fullShare g)) ⊢ (iprop(∃ f : Buf (Elt F) (mbV.view.loc (thr d L)), apts d L mbV fullShare f) : sProp 𝕄) := by
  refine BIBase.Entails.trans (Entails.of_eq (bigSep_congr fun b _ => ?_)) (joinSlots (F := F) (ℓ := mbV.view.loc (thr d L)) slotSet slots_disjoint slots_cover)
  unfold vpts
  rw [set_slotM]

/-! ## The tile's own cells and buffers -/

/-- The semaphores the tile uses. -/
abbrev semsV : Fin 12 → DmaSem sig :=
  ![cc0_scratch4.sem, cc0_scratch5.sem, cc0_scratch6.sem, cc0_scratch7.sem, cc0_scratch8.sem, cc0_scratch9.sem, cc0_scratch10.sem, cc0_scratch11.sem,
    cc0_scratch12.sem, cc0_scratch13.sem, cc0_scoped0.sem, cc0_scoped1.sem]
abbrev cellV (k : Fin 12) : GSem nD τ sig := (thr d L, .dma (semsV k))

theorem cellV_injective : Function.Injective (cellV d L) := fun i j h => by
  have h' : (SemLoc.dma (semsV i) : SemLoc sig) = .dma (semsV j) := congrArg Prod.snd h
  clear h; revert i j
  decide

theorem cellV_mem (k : Fin 12) : cellV d L k ∈ ownCells (thr d L) :=
  mem_ownCells.mpr ⟨rfl, by
    show (SemLoc.dma (semsV k) : SemLoc sig).isScoped .scVector = true
    revert k; decide⟩

theorem ownSems0_V :
    (ownSems0 (thr d L) : sProp 𝕄)
      = iprop((semVal (cellX d L 0) 0 ∗ semVal (cellX d L 1) 0 ∗ semVal (cellX d L 2) 0 ∗ semVal (cellX d L 3) 0 ∗ semVal (cellX d L 4) 0
          ∗ semVal (cellM d L 0) 0 ∗ semVal (cellM d L 1) 0 ∗ semVal (cellM d L 2) 0 ∗ semVal (cellM d L 3) 0 ∗ semVal (cellM d L 4) 0
          ∗ semVal (thr d L, .dma cc0_scoped0.sem) 0 ∗ semVal (thr d L, .dma cc0_scoped1.sem) 0)
        ∗ bigSep (ownCells (thr d L) \ Finset.univ.map ⟨cellV d L, cellV_injective d L⟩) fun g => semVal g 0) := by
  unfold SparseCore.Cfg.ownSems0
  rw [bigSep_pick (ownCells (thr d L)) (cellV d L) (cellV_injective d L) (cellV_mem d L), bigSep_twelve]
  rfl

/-- The buffers the tile uses. -/
abbrev refsV : Fin 4 → Ref sig .scVector := ![cc0_scratch0, cc0_scratch1, cc0_scratch2, cc0_scratch3]
abbrev bufV (k : Fin 4) : DevRef τ sig := (Proc.scVector (cV L) (jV L)).devRef (refsV k)

theorem bufV_injective : Function.Injective (bufV L) := fun i j h => by
  have h' : refsV i = refsV j := Proc.devRef_injective _ h
  revert h'; clear h; revert i j
  decide

theorem bufV_mem (k : Fin 4) : bufV L k ∈ ownRefs (τ := τ) (sig := sig) (.scVector (cV L) (jV L)) :=
  SparseCore.Cfg.mem_ownRefs_of_owner (p := Proc.scVector (cV L) (jV L)) (match k with | 0 => rfl | 1 => rfl | 2 => rfl | 3 => rfl)

theorem ownBufs_V :
    (ownBufs (thr d L) : sProp 𝕄)
      = iprop(((∃ f, apts d L idxV fullShare f) ∗ (∃ f, apts d L xbV fullShare f) ∗ (∃ f, apts d L mbV fullShare f) ∗ (∃ f, apts d L accV fullShare f))
          ∗ bigSep (ownRefs (τ := τ) (.scVector (cV L) (jV L)) \ Finset.univ.map ⟨bufV L, bufV_injective L⟩)
              fun b => iprop(∃ f, ((d, b) : Loc nD τ sig) ↦{fullShare} f)) := by
  unfold SparseCore.Cfg.ownBufs
  rw [bigSep_pick (ownRefs (thr d L).2) (bufV L) (bufV_injective L) (bufV_mem L), bigSep_four]
  rfl

/-! ## The tile's row of the partial sums -/

variable (x : S320000x128.Idx → Elt F .f32) (l : S320000.Idx → Elt F .i32) (u : S10000x128.Idx → Elt F .f32)

/-- The partial sums: row `w` is those of the tile whose rows start at `10000 w`. -/
def outV : S32x16.Idx → Elt F .f32 := fun i => totV x l u (10000 * (i 0).val) (at1 (i 1))

theorem off2_eq : ∀ L : grid0.Coords, ∀ r : Fin 5, k0_off2 L (BitVec.ofNat 32 (40 * r.val)) = ![base L + 40 * r.val, 0] := by decide +kernel

theorem row_place (y : S16.Idx) : Shape.reshapeEquiv (squeezes_S1x16_S16).numel_eq y = (at2 (0 : Fin 1) (y 0) : S1x16.Idx) := by
  refine Shape.reshapeEquiv_eq_of_rowMajor _ ?_
  rw [Shape.rowMajor_val_one, Shape.rowMajor_val_two]
  show 0 * 16 + (y 0).val = (y 0).val
  omega

theorem outV_oTile (y : S16.Idx) : outV x l u ((oTile L).view.emb y) = totV x l u (base L) y := by
  have e : (oTile L).view.emb y = (at2 (⟨2 * (L 1).val + (L 0).val, by
      have h1 : (L 1).val < 16 := (L 1).isLt
      have h0 : (L 0).val < 2 := (L 0).isLt
      omega⟩ : Fin 32) (y 0) : S32x16.Idx) := by
    show (Rect.unit (s := S32x16) (k0_off87 L) S1x16.size (k0_off87_inb L)).emb (Shape.reshapeEquiv (squeezes_S1x16_S16).numel_eq y) = _
    rw [row_place]
    funext a
    refine Fin.ext ?_
    match a with
    | 0 => exact (show k0_off87 L 0 + 1 * 0 = 2 * (L 1).val + (L 0).val by rw [k0_off87_eq]; rfl)
    | 1 => exact (show k0_off87 L 1 + 1 * (y 0).val = (y 0).val by rw [k0_off87_eq]; show 0 + 1 * (y 0).val = _; omega)
  rw [e]
  show totV x l u (10000 * (2 * (L 1).val + (L 0).val)) (at1 (y 0)) = _
  rw [show 10000 * (2 * (L 1).val + (L 0).val) = base L by unfold base; omega]
  congr 1
  funext a
  match a with
  | 0 => rfl

theorem out_write (fo : Buf (Elt F) (oV.view.loc (thr d L))) :
    (ipts d L oV (oTile L).view.set fullShare ((oTile L).view.write (Elt F) fo (totV x l u (base L)) Finset.univ) : sProp 𝕄)
      = ipts d L oV (oTile L).view.set fullShare (outV x l u) := by
  refine pointsTo_congr fun i hi => ?_
  obtain ⟨y, -, rfl⟩ := Finset.mem_map.mp hi
  rw [show (outV x l u : Buf (Elt F) (oV.view.loc (thr d L))) ((oTile L).view.emb y) = totV x l u (base L) y from outV_oTile L x l u y]
  exact (View.write_emb ..).trans (if_pos (Finset.mem_univ _))

/-- What the tile stores and sends. -/
abbrev accR : Rect S16 := Rect.unit (s := S16) ![0] S16.size inb_S16_S16_0

theorem read_acc (f : Buf (Elt F) (accV.view.loc (thr d L))) (w : S16.Idx → Elt F .f32) :
    accV.view.read (Elt F) ((accV.access accR).write (Elt F) f w Finset.univ) = w := by
  funext y
  have e : (accV.access accR).emb y = y := by
    funext a
    match a with
    | 0 => exact Fin.ext (show 0 + 1 * (y 0).val = (y 0).val by omega)
  refine (congrArg ((accV.access accR).write (Elt F) f w Finset.univ) e.symm).trans ?_
  exact (View.write_emb ..).trans (if_pos (Finset.mem_univ _))

end Tile

end Cert.Proof.Sq

end
-- ==== Proof.TileRun.lean ====
/-
  The tile's program run from its parts of the arrays and its own memory.
-/
module

public import proofs.«01_k».proof.Proof.Tile

@[expose] public section

noncomputable section

namespace Cert.Proof.Sq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)
variable (x : S320000x128.Idx → Elt F .f32) (l : S320000.Idx → Elt F .i32) (u : S10000x128.Idx → Elt F .f32)
variable (qx ql qu : PosShare TreeShare) (O : CellTallies nD τ sig (HIx 1)) (W : Waits sig (HIx 1))

/-- The two buffers whole, the cells at zero and what the slots read: the five slots at rest, and back. -/
def pool (q : PosShare TreeShare) : sProp 𝕄 :=
  iprop((∃ f, apts d L xbV fullShare f) ∗ (∃ f, apts d L mbV fullShare f)
    ∗ (apts d L xV qx x ∗ apts d L tV qu u ∗ apts d L idxV q (gL l (base L)))
    ∗ (semVal (cellX d L 0) 0 ∗ semVal (cellX d L 1) 0 ∗ semVal (cellX d L 2) 0 ∗ semVal (cellX d L 3) 0 ∗ semVal (cellX d L 4) 0)
    ∗ (semVal (cellM d L 0) 0 ∗ semVal (cellM d L 1) 0 ∗ semVal (cellM d L 2) 0 ∗ semVal (cellM d L 3) 0 ∗ semVal (cellM d L 4) 0))

theorem pool_rest (q : PosShare TreeShare) : pool d L x l u qx qu q ⊢ rest d L x l u qx qu q := by
  unfold pool rest idleS idle reads
  unfold apts
  rw [pts_five Finset.univ qx, pts_five Finset.univ qu, pts_five Finset.univ q]
  iintro ⟨⟨%fx, HX⟩, ⟨%fm, HM⟩, ⟨⟨Hx0, Hx1, Hx2, Hx3, Hx4⟩, ⟨Hu0, Hu1, Hu2, Hu3, Hu4⟩, ⟨Hl0, Hl1, Hl2, Hl3, Hl4⟩⟩,
    ⟨Hc0, Hc1, Hc2, Hc3, Hc4⟩, ⟨Hd0, Hd1, Hd2, Hd3, Hd4⟩⟩
  ihave HX := (splitX d L fx) $$ HX
  ihave HM := (splitM d L fm) $$ HM
  ihave HX := (Entails.of_eq (bigSep_five _)) $$ HX
  ihave HM := (Entails.of_eq (bigSep_five _)) $$ HM
  icases HX with ⟨HX0, HX1, HX2, HX3, HX4⟩
  icases HM with ⟨HM0, HM1, HM2, HM3, HM4⟩
  isplitl [HX0 HM0 Hx0 Hu0 Hl0 Hc0 Hd0]
  · iframe
  isplitl [HX1 HM1 Hx1 Hu1 Hl1 Hc1 Hd1]
  · iframe
  isplitl [HX2 HM2 Hx2 Hu2 Hl2 Hc2 Hd2]
  · iframe
  isplitl [HX3 HM3 Hx3 Hu3 Hl3 Hc3 Hd3]
  · iframe
  iframe

theorem rest_pool (q : PosShare TreeShare) : rest d L x l u qx qu q ⊢ pool d L x l u qx qu q := by
  unfold pool rest idleS idle reads
  unfold apts
  rw [pts_five Finset.univ qx, pts_five Finset.univ qu, pts_five Finset.univ q]
  iintro ⟨⟨HX0, HM0, ⟨Hx0, Hu0, Hl0⟩, Hc0, Hd0⟩, ⟨HX1, HM1, ⟨Hx1, Hu1, Hl1⟩, Hc1, Hd1⟩, ⟨HX2, HM2, ⟨Hx2, Hu2, Hl2⟩, Hc2, Hd2⟩,
    ⟨HX3, HM3, ⟨Hx3, Hu3, Hl3⟩, Hc3, Hd3⟩, ⟨HX4, HM4, ⟨Hx4, Hu4, Hl4⟩, Hc4, Hd4⟩⟩
  isplitl [HX0 HX1 HX2 HX3 HX4]
  · iapply (joinX d L)
    iapply (Entails.of_eq (bigSep_five _).symm)
    iframe
  isplitl [HM0 HM1 HM2 HM3 HM4]
  · iapply (joinM d L)
    iapply (Entails.of_eq (bigSep_five _).symm)
    iframe
  iframe

/-- The five slots started, run through the ring and emptied. -/
def sumsP (L : grid0.Coords) : TP F L (Acc F) := do
  startP L 0 (k0_off2 L 0#32) (k0_off2_inb L 0) ![0] inb_S10000_S40_0
  startP L 1 (k0_off2 L 40#32) (k0_off2_inb L 1) ![40] inb_S10000_S40_40
  startP L 2 (k0_off2 L 80#32) (k0_off2_inb L 2) ![80] inb_S10000_S40_80
  startP L 3 (k0_off2 L 120#32) (k0_off2_inb L 3) ![120] inb_S10000_S40_120
  startP L 4 (k0_off2 L 160#32) (k0_off2_inb L 4) ![160] inb_S10000_S40_160
  let a ← Scf.Loop.for k0_t1_loop k0_t1_ok (k0_pay71 (F := F), k0_pay71 (F := F), k0_pay71 (F := F), k0_pay71 (F := F), k0_pay71 (F := F), k0_pay71 (F := F), k0_pay71 (F := F), k0_pay71 (F := F)) (ringP L)
  let a ← lastP L 0 9800#32 (k0_off2_inb L 5) a
  let a ← lastP L 1 9840#32 (k0_off2_inb L 6) a
  let a ← lastP L 2 9880#32 (k0_off2_inb L 7) a
  let a ← lastP L 3 9920#32 (k0_off2_inb L 8) a
  lastP L 4 9960#32 (k0_off2_inb L 9) a

theorem wp_sums (hl : ∀ i, (l i).toNat < 10000) (q : PosShare TreeShare) (Q : Acc F → sProp 𝕄) :
    iprop(rest d L x l u qx qu q ∗ wt d L O W ∗ (rest d L x l u qx qu q ∗ wt d L O W -∗ Q (accV' x l u (base L) 250)))
      ⊢ wpT d L (sumsP L) Q := by
  unfold sumsP rest
  simp only [wp_bind]
  iintro ⟨⟨H0, H1, H2, H3, H4⟩, Hwt, HQ⟩
  iapply (wp_startP d L x l u _ _ _ hl 0 (40 * 0) (by decide) _ _ _ _ (off2_eq L 0) rfl)
  isplitl [H0]; · iexact H0
  iintro H0
  iapply (wp_startP d L x l u _ _ _ hl 1 (40 * (0 + 1)) (by decide) _ _ _ _ (off2_eq L 1) rfl)
  isplitl [H1]; · iexact H1
  iintro H1
  iapply (wp_startP d L x l u _ _ _ hl 2 (40 * (0 + 2)) (by decide) _ _ _ _ (off2_eq L 2) rfl)
  isplitl [H2]; · iexact H2
  iintro H2
  iapply (wp_startP d L x l u _ _ _ hl 3 (40 * (0 + 3)) (by decide) _ _ _ _ (off2_eq L 3) rfl)
  isplitl [H3]; · iexact H3
  iintro H3
  iapply (wp_startP d L x l u _ _ _ hl 4 (40 * (0 + 4)) (by decide) _ _ _ _ (off2_eq L 4) rfl)
  isplitl [H4]; · iexact H4
  iintro H4
  iapply (wp_ring d L x l u qx qu q O W hl)
  unfold fly
  isplitl [H0 H1 H2 H3 H4]
  · iframe
  isplitl [Hwt]; · iexact Hwt
  iintro ⟨⟨H0, H1, H2, H3, H4⟩, Hwt⟩
  iapply (wp_lastP d L x l u _ _ _ O W 0 245 246 rfl)
  isplitl [H0]; · iexact H0
  isplitl [Hwt]; · iexact Hwt
  iintro ⟨H0, Hwt⟩
  iapply (wp_lastP d L x l u _ _ _ O W 1 246 247 rfl)
  isplitl [H1]; · iexact H1
  isplitl [Hwt]; · iexact Hwt
  iintro ⟨H1, Hwt⟩
  iapply (wp_lastP d L x l u _ _ _ O W 2 247 248 rfl)
  isplitl [H2]; · iexact H2
  isplitl [Hwt]; · iexact Hwt
  iintro ⟨H2, Hwt⟩
  iapply (wp_lastP d L x l u _ _ _ O W 3 248 249 rfl)
  isplitl [H3]; · iexact H3
  isplitl [Hwt]; · iexact Hwt
  iintro ⟨H3, Hwt⟩
  iapply (wp_lastP d L x l u _ _ _ O W 4 249 250 rfl)
  isplitl [H4]; · iexact H4
  isplitl [Hwt]; · iexact Hwt
  iintro ⟨H4, Hwt⟩
  iapply HQ
  isplitr [Hwt]
  swap; · iexact Hwt
  iframe

/-- The tile's program after the labels have landed. -/
def tailP (L : grid0.Coords) (a : Acc F) : TP F L PUnit := do
  let _ : Vec F S16 .f32 ← Prog.lift (.load accV (Rect.unit (s := S16) ![0] S16.size inb_S16_S16_0).toLoadRect (View.loadsAt_vmem h_S16))
  Prog.lift (.store accV (Rect.unit (s := S16) ![0] S16.size inb_S16_S16_0) (k0_pay82 a.1 a.2.1 a.2.2.1 a.2.2.2.1 a.2.2.2.2.1 a.2.2.2.2.2.1 a.2.2.2.2.2.2.1 a.2.2.2.2.2.2.2) Finset.univ (View.stores_vmem_bits_univ h_S16 rfl) (.inl rfl))
  Prog.lift (.enqueueDma accV (.here (oTile L)) (.dma cc0_scoped1.sem) (Memref.isWhole_whole _).wordExact ((View.wordExact_bits rfl).reshape _ _) ⟨Or.inl rfl, trivial⟩)
  Prog.lift (.waitDma2 cc0_scoped1.sem accV (oTile L) (Memref.isWhole_whole _).wordExact ((View.wordExact_bits rfl).reshape _ _))
  pure ⟨⟩

theorem tileP_split : tileP (F := F) L
    = (do
      Prog.lift (.enqueueDma (lTile L) (.here idxV) (.dma cc0_scoped0.sem) (View.wordExact_bits rfl) (Memref.isWhole_whole _).wordExact ⟨Or.inl rfl, trivial⟩)
      Prog.lift (.waitDma2 cc0_scoped0.sem (lTile L) idxV (View.wordExact_bits rfl) (Memref.isWhole_whole _).wordExact)
      let a ← sumsP L
      tailP L a : TP F L PUnit) := by
  simp only [tileP, sumsP, tailP, bind_assoc]

theorem set_accR : (accV.access accR).setOn Finset.univ ⊆ Finset.univ := Finset.subset_univ _

/-- The last of the tile: its sums stored, sent and waited for. -/
theorem wp_tail (fo : Buf (Elt F) (oV.view.loc (thr d L))) (Q : PUnit → sProp 𝕄) :
    iprop((∃ f, apts d L accV fullShare f) ∗ ipts d L oV (oTile L).view.set fullShare fo ∗ semVal (thr d L, .dma cc0_scoped1.sem) 0 ∗ wt d L O W
      ∗ ((∃ f, apts d L accV fullShare f) ∗ ipts d L oV (oTile L).view.set fullShare (outV x l u) ∗ semVal (thr d L, .dma cc0_scoped1.sem) 0 ∗ wt d L O W -∗ Q ⟨⟩))
      ⊢ wpT d L (tailP L (accV' x l u (base L) 250)) Q := by
  unfold tailP
  simp only [Prog.lift, wp_bind]
  iintro ⟨⟨%f, Ha⟩, Ho, Hs, Hwt, HQ⟩
  iapply (wp_load_rect (defs := defs₀ (F := F)) 𝒱₀ (thr d L) none Set.univ (m := accV) (r := accR) (S := Finset.univ) (q := fullShare) (f := f)
    (Finset.subset_univ _)) $$ Ha
  iintro Ha
  rw [wp_ret]; imodintro
  iapply (wp_store (defs := defs₀ (F := F)) 𝒱₀ (thr d L) none Set.univ (m := accV) (r := accR) (S := Finset.univ) (f := f) (set_accR)) $$ Ha
  iintro Ha
  rw [wp_ret]; imodintro
  iapply (Transfers.wp_dmaLocal (defs := defs₀ (F := F)) countersEmb 𝒱₀ (thr d L) none (src := accV) (dst := oTile L) (sm := .dma cc0_scoped1.sem) (q := fullShare)
    (fs := (accV.access accR).write (Elt F) f (totV x l u (base L)) Finset.univ) (fd := fo)
    (Sd := (oTile L).view.set) (default : HIx 1) (oTile L).view.dmaCredit rfl (View.dmaCredit_pos _ (by decide)) (Finset.Subset.refl _)) $$ [Ha Ho Hs]
  · isplitl [Ha]
    · rw [show accV.view.set = Finset.univ from View.set_whole _]
      iexact Ha
    isplitl [Ho]; · iexact Ho
    iexact Hs
  iintro Hf
  rw [wp_ret]; imodintro
  iapply (wp_wait1 d L O W cc0_scoped1.sem accV (oTile L) _ _ _ _ rfl)
  isplitl [Hf]; · iexact Hf
  isplitl [Hwt]; · iexact Hwt
  iintro ⟨⟨Ho, Ha⟩, Hs, Hwt⟩
  rw [wp_ret]; imodintro
  rw [wp_pure]; imodintro
  iapply HQ
  isplitl [Ha]
  · iexists _
    rw [show accV.view.set = Finset.univ from View.set_whole _]
    iexact Ha
  isplitl [Ho]
  · rw [← out_write d L x l u fo, read_acc]
    iexact Ho
  isplitl [Hs]; · iexact Hs
  iexact Hwt

theorem labels_join : iprop(ipts d L lV (lTile L).view.set ql l ∗ ipts d L lV (Finset.univ \ (lTile L).view.set) ql l) ⊢ (apts d L lV ql l : sProp 𝕄) :=
  (pointsTo_split_subset (ℓ := lV.view.loc (thr d L)) (q := ql) (f := l) (I := (lTile L).view.set) (Finset.subset_univ _)).2

/-- The tile, from its share of the inputs, the labels and the means, and its row of the partial sums. -/
theorem tile_body (hF : (K (F := F)).Facts) (hl : ∀ i, (l i).toNat < 10000) (hO : ∀ g, O g none = 0) (fo : Buf (Elt F) (oV.view.loc (thr d L))) :
    iprop(levAts (K (F := F)).L (K (F := F)).lev ∗ emp
        ∗ (apts d L xV qx x ∗ apts d L lV ql l ∗ apts d L tV qu u ∗ ipts d L oV (oTile L).view.set fullShare fo)
        ∗ scopedBufs (thr d L) ∗ scopedSems0 (thr d L) ∗ owes (thr d L) O W)
      ⊢ wpT d L
          (cc0__sc_sqdist (F := F) L xV (Memref.isWhole_whole _) lV (Memref.isWhole_whole _) tV (Memref.isWhole_whole _) oV (Memref.isWhole_whole _)
            idxV (Memref.isWhole_whole _) xbV (Memref.isWhole_whole _) mbV (Memref.isWhole_whole _) accV (Memref.isWhole_whole _)
            cc0_scratch4 cc0_scratch5 cc0_scratch6 cc0_scratch7 cc0_scratch8 cc0_scratch9 cc0_scratch10 cc0_scratch11 cc0_scratch12 cc0_scratch13 cc0_scoped0 cc0_scoped1)
          fun _ => iprop((apts d L xV qx x ∗ apts d L lV ql l ∗ apts d L tV qu u ∗ ipts d L oV (oTile L).view.set fullShare (outV x l u))
            ∗ scopedBufs (thr d L) ∗ scopedSems0 (thr d L)
            ∗ ∃ W', ⌜∀ p ∈ W', p ∈ W ∨ p.2 = none⌝ ∗ owes (thr d L) O W') := by
  rw [tile_eq, tileP_split]
  simp only [Prog.lift, wp_bind]
  rw [(K (F := F)).scopedBufs_V hF d (cV L) (jV L), SparseCore.Cfg.scopedSems0_V (Val := Elt F) d (cV L) (jV L)]
  rw [show (ownSems0 (V d (cV L) (jV L)) : sProp 𝕄) = _ from ownSems0_V d L, show (ownBufs (V d (cV L) (jV L)) : sProp 𝕄) = _ from ownBufs_V d L]
  iintro ⟨#Hlv, -, ⟨Hx, Hl, Hu, Ho⟩, ⟨⟨⟨%fi, Hi⟩, HX, HM, Ha⟩, Hbufs⟩, ⟨⟨Hc0, Hc1, Hc2, Hc3, Hc4, Hd0, Hd1, Hd2, Hd3, Hd4, Hs0, Hs1⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hwt := (show iprop(Transfers.MayWaits (thr d L) (default : HIx 1) O ∗ owes (thr d L) O W) ⊢ wt d L O W from by
    unfold wt
    iintro ⟨Hm, HO⟩
    isplitl [Hm]; · iexact Hm
    iexists W
    isplitr; · ipureintro; exact fun p hp => .inl hp
    iexact HO) $$ [Hmw HO]
  · isplitl [Hmw]; · iexact Hmw
    iexact HO
  ihave Hl := (pointsTo_split_subset (Finset.subset_univ (lTile L).view.set)).1 $$ Hl
  icases Hl with ⟨Hl, Hlr⟩
  iapply (Transfers.wp_dmaLocal (defs := defs₀ (F := F)) countersEmb 𝒱₀ (thr d L) none (src := lTile L) (dst := idxV) (sm := .dma cc0_scoped0.sem) (q := ql)
    (fs := l) (fd := fi)
    (Sd := Finset.univ) (default : HIx 1) idxV.view.dmaCredit rfl (View.dmaCredit_pos _ (by decide)) (Finset.subset_univ _)) $$ [Hl Hi Hs0]
  · isplitl [Hl]; · iexact Hl
    isplitl [Hi]; · iexact Hi
    iexact Hs0
  iintro Hf
  rw [wp_ret]; imodintro
  iapply (wp_wait1 d L O W cc0_scoped0.sem (lTile L) idxV _ _ _ _ rfl)
  isplitl [Hf]; · iexact Hf
  isplitl [Hwt]; · iexact Hwt
  iintro ⟨⟨Hi, Hl⟩, Hs0, Hwt⟩
  rw [wp_ret]; imodintro
  ihave Hl := (labels_join d L l ql) $$ [Hl Hlr]
  · isplitl [Hl]; · iexact Hl
    iexact Hlr
  rw [View.write_whole_univ]
  iapply (wp_sums d L x l u qx qu O W hl fullShare)
  isplitl [HX HM Hx Hu Hi Hc0 Hc1 Hc2 Hc3 Hc4 Hd0 Hd1 Hd2 Hd3 Hd4]
  · iapply (pool_rest d L x l u qx qu fullShare)
    unfold pool
    isplitl [HX]; · iexact HX
    isplitl [HM]; · iexact HM
    isplitl [Hx Hu Hi]
    · isplitl [Hx]; · iexact Hx
      isplitl [Hu]; · iexact Hu
      rw [← read_lTile l L]
      iexact Hi
    iframe
  isplitl [Hwt]; · iexact Hwt
  iintro ⟨HR, Hwt⟩
  iapply (wp_tail d L x l u O W fo)
  isplitl [Ha]; · iexact Ha
  isplitl [Ho]; · iexact Ho
  isplitl [Hs1]; · iexact Hs1
  isplitl [Hwt]; · iexact Hwt
  iintro ⟨Ha, Ho, Hs1, Hwt⟩
  ihave HR := (rest_pool d L x l u qx qu fullShare) $$ HR
  unfold pool wt
  icases HR with ⟨HX, HM, ⟨Hx, Hu, Hi⟩, ⟨Hc0, Hc1, Hc2, Hc3, Hc4⟩, ⟨Hd0, Hd1, Hd2, Hd3, Hd4⟩⟩
  icases Hwt with ⟨-, HW⟩
  isplitl [Hx Hl Hu Ho]
  · iframe
  isplitl [Hi HX HM Ha Hbufs]
  · isplitr [Hbufs]
    · isplitl [Hi]; · iexists _; iexact Hi
      isplitl [HX]; · iexact HX
      isplitl [HM]; · iexact HM
      iexact Ha
    iexact Hbufs
  isplitr [HW]
  swap; · iexact HW
  isplitr [Hsems]
  · iframe
  iexact Hsems

end Cert.Proof.Sq

end
-- ==== Proof.Launch.lean ====
/-
  The program's run: the inputs, the labels and the means dealt to the thirty-two tiles by shares, the partial sums by
  rows; then the host's sum of the partial sums and its root.
-/
module

public import proofs.«01_k».proof.Proof.TileRun
public import Idealize.ShloMosaic.Lib.ShareLeaves

@[expose] public section

noncomputable section

namespace Cert.Proof.Sq

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ShareLeaves (leaf pointsTo_leaves)

variable {F : FTy → Type}

local notation "𝕄" => MT nD τ sig (HIx 1) (Elt F) ℕ UU ℕ

/-! ## The launch's set-up -/

abbrev D [FloatOps F] : Defs nD τ sig (Elt F) (ΛP (F := F)) := Pipeline.defs pcfgs defs₀
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

abbrev xLoc (d : Dev nD) : Loc nD τ sig := (SparseCore.T d).loc main_arg0
abbrev lLoc (d : Dev nD) : Loc nD τ sig := (SparseCore.T d).loc main_arg1
abbrev uLoc (d : Dev nD) : Loc nD τ sig := (SparseCore.T d).loc main_arg2
abbrev oLoc (d : Dev nD) : Loc nD τ sig := (SparseCore.T d).loc main_v0
abbrev rLoc (d : Dev nD) : Loc nD τ sig := (SparseCore.T d).loc main_v2

/-- Every label names a class. -/
def PreOK : Prop := ∀ (d : Dev nD) (j : S320000.Idx), (m (lLoc d) j).toNat < 10000

/-! ## The rows of the partial sums -/

/-- The tile on core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem odiv : 32 ∣ S32x16.size 0 := ⟨1, rfl⟩

/-- The row of tile `(c, s)`: row `2 s + c`. -/
abbrev rowNo (p : Fin 2 × Fin 16) : Fin 32 := ⟨2 * p.2.val + p.1.val, by omega⟩
abbrev oSet (p : Fin 2 × Fin 16) : Finset S32x16.Idx := (Rect.part (s := S32x16) (a₀ := 0) odiv (rowNo p)).set

theorem rowNo_injective : Function.Injective rowNo := fun p q h => by
  have h' : 2 * p.2.val + p.1.val = 2 * q.2.val + q.1.val := congrArg Fin.val h
  exact Prod.ext (Fin.ext (by omega)) (Fin.ext (by omega))

theorem set_oTile (c : Fin 2) (s : Fin 16) : (oTile (coordsV c s)).view.set = oSet (c, s) := by
  show (((View.whole main_v0_scv).slice _).reshape S16 _).set = _
  rw [View.set_reshape, View.set_slice_whole]
  refine congrArg (fun r : Rect S32x16 => r.set) ?_
  unfold Rect.part Rect.block
  congr 1 <;> funext a
  · rw [k0_off87_eq]
    match a with
    | 0 => simp [Shape.partIx, Shape.partSize, coordsV]
    | 1 => simp [Shape.partIx, Shape.partSize]
  · match a with
    | 0 => simp [Shape.partSize]
    | 1 => simp [Shape.partSize]

theorem orows_disjoint : ∀ p ∈ (Finset.univ : Finset (Fin 2 × Fin 16)), ∀ q ∈ (Finset.univ : Finset (Fin 2 × Fin 16)), p ≠ q → Disjoint (oSet p) (oSet q) :=
  fun _ _ _ _ h => Rect.part_disjoint odiv fun e => h (rowNo_injective e)
theorem orows_cover : (Finset.univ : Finset (Fin 2 × Fin 16)).biUnion oSet = Finset.univ := by
  rw [← Rect.biUnion_part odiv]
  ext i
  simp only [Finset.mem_biUnion, Finset.mem_univ, true_and]
  constructor
  · rintro ⟨p, hp⟩; exact ⟨rowNo p, hp⟩
  · rintro ⟨w, hw⟩
    refine ⟨(⟨w.val % 2, by omega⟩, ⟨w.val / 2, by omega⟩), ?_⟩
    have e : rowNo (⟨w.val % 2, by omega⟩, ⟨w.val / 2, by omega⟩) = w := Fin.ext (by show 2 * (w.val / 2) + w.val % 2 = w.val; omega)
    show i ∈ (Rect.part odiv (rowNo _)).set
    rw [e]; exact hw

theorem oPts_rows (d : Dev nD) (f : Buf (Elt F) (oLoc d)) :
    (oLoc d ↦{fullShare} f : sProp 𝕄)
      = bigSep Finset.univ fun c : Fin 2 => bigSep Finset.univ fun s : Fin 16 => oLoc d ↦[oSet (c, s)]{fullShare} f := by
  rw [← bigSep_univ_prod (fun p : Fin 2 × Fin 16 => (oLoc d ↦[oSet p]{fullShare} f : sProp 𝕄)),
    ← pointsTo_biUnion Finset.univ (ℓ := oLoc d) oSet orows_disjoint, orows_cover]

variable [FloatOps F]

/-- What the tiles leave in the partial sums. -/
abbrev outM (d : Dev nD) : Buf (Elt F) (oLoc d) := outV (m (xLoc d)) (m (lLoc d)) (m (uLoc d))

/-! ## What the handshakes carry -/

abbrev qc (c : Fin 2) : PosShare TreeShare := leaf 1 fullShare c
abbrev xPts (d : Dev nD) (q : PosShare TreeShare) : sProp 𝕄 := xLoc d ↦{q} m (xLoc d)
abbrev lPts (d : Dev nD) (q : PosShare TreeShare) : sProp 𝕄 := lLoc d ↦{q} m (lLoc d)
abbrev uPts (d : Dev nD) (q : PosShare TreeShare) : sProp 𝕄 := uLoc d ↦{q} m (uLoc d)
abbrev oPts (d : Dev nD) (f : Buf (Elt F) (oLoc d)) (c : Fin 2) (s : Fin 16) : sProp 𝕄 := oLoc d ↦[oSet (c, s)]{fullShare} f

/-- A core's part, the partial sums at `f`; a tile's. -/
abbrev corePay (d : Dev nD) (f : Buf (Elt F) (oLoc d)) (c : Fin 2) : sProp 𝕄 :=
  iprop(xPts m d (qc c) ∗ lPts m d (qc c) ∗ uPts m d (qc c) ∗ bigSep Finset.univ fun s : Fin 16 => oPts d f c s)
abbrev tilePay (d : Dev nD) (f : Buf (Elt F) (oLoc d)) (c : Fin 2) (s : Fin 16) : sProp 𝕄 :=
  iprop(xPts m d (leaf 4 (qc c) s) ∗ lPts m d (leaf 4 (qc c) s) ∗ uPts m d (leaf 4 (qc c) s) ∗ oPts d f c s)

/-- The one call deals shares of the three arguments and the rows of the partial sums, which come back written. -/
def P : (K (F := F)).Pay (nD := nD) (Val := Elt F) (Name := ℕ) (U := UU) where
  st := fun q d c => match q with | 0 => corePay m d (m (oLoc d)) (Fin.cast nCore_zero c)
  dn := fun q d c => match q with | 0 => corePay m d (outM m d) (Fin.cast nCore_zero c)
  go := fun q d c i => match q with | 0 => tilePay m d (m (oLoc d)) (Fin.cast nCore_zero c) (Fin.cast nSub_zero i)
  td := fun q d c i => match q with | 0 => tilePay m d (outM m d) (Fin.cast nCore_zero c) (Fin.cast nSub_zero i)
  x := fun _ _ => iprop(emp)

instance P_storable : (P (F := F) m).IsStorable where
  st q d c := match q with
    | 0 => (inferInstance : BI.Storable (upEmb : UEmb _ 𝕄) (corePay m d (m (oLoc d)) (Fin.cast nCore_zero c)))
  dn q d c := match q with
    | 0 => (inferInstance : BI.Storable (upEmb : UEmb _ 𝕄) (corePay m d (outM m d) (Fin.cast nCore_zero c)))
  go q d c i := match q with
    | 0 => (inferInstance : BI.Storable (upEmb : UEmb _ 𝕄) (tilePay m d (m (oLoc d)) (Fin.cast nCore_zero c) (Fin.cast nSub_zero i)))
  td q d c i := match q with
    | 0 => (inferInstance : BI.Storable (upEmb : UEmb _ 𝕄) (tilePay m d (outM m d) (Fin.cast nCore_zero c) (Fin.cast nSub_zero i)))

/-! ## A tile's obligation -/

theorem defs₀_vector (c : Fin τ.nSC) (s : Fin τ.nSub) :
    defs₀ (F := F) (.scVector c s) 0 ()
      = SparseCore.onTile hcore0 hsub0 (fun c s => cc0__sc_sqdist (F := F) (coordsV c s)
          xV (Memref.isWhole_whole _) lV (Memref.isWhole_whole _) tV (Memref.isWhole_whole _) oV (Memref.isWhole_whole _)
          idxV (Memref.isWhole_whole _) xbV (Memref.isWhole_whole _) mbV (Memref.isWhole_whole _) accV (Memref.isWhole_whole _)
          cc0_scratch4 cc0_scratch5 cc0_scratch6 cc0_scratch7 cc0_scratch8 cc0_scratch9 cc0_scratch10 cc0_scratch11 cc0_scratch12 cc0_scratch13 cc0_scoped0 cc0_scoped1) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile's run over what the handshakes carry. -/
theorem tile_pay (hF : (K (F := F)).Facts) (hpre : PreOK m) (d : Dev nD) (c : Fin 2) (s : Fin 16) (O : CellTallies nD τ sig (HIx 1)) (W : Waits sig (HIx 1))
    (hO : ∀ g, O g none = 0) :
    iprop(levAts (K (F := F)).L (K (F := F)).lev ∗ emp ∗ tilePay m d (m (oLoc d)) c s
        ∗ scopedBufs (thr d (coordsV c s)) ∗ scopedSems0 (thr d (coordsV c s)) ∗ owes (thr d (coordsV c s)) O W)
      ⊢ wpT d (coordsV c s)
          (cc0__sc_sqdist (F := F) (coordsV c s) xV (Memref.isWhole_whole _) lV (Memref.isWhole_whole _) tV (Memref.isWhole_whole _) oV (Memref.isWhole_whole _)
            idxV (Memref.isWhole_whole _) xbV (Memref.isWhole_whole _) mbV (Memref.isWhole_whole _) accV (Memref.isWhole_whole _)
            cc0_scratch4 cc0_scratch5 cc0_scratch6 cc0_scratch7 cc0_scratch8 cc0_scratch9 cc0_scratch10 cc0_scratch11 cc0_scratch12 cc0_scratch13 cc0_scoped0 cc0_scoped1)
          fun _ => iprop(tilePay m d (outM m d) c s ∗ scopedBufs (thr d (coordsV c s)) ∗ scopedSems0 (thr d (coordsV c s))
            ∗ ∃ W', ⌜∀ p ∈ W', p ∈ W ∨ p.2 = none⌝ ∗ owes (thr d (coordsV c s)) O W') := by
  have h := tile_body (F := F) d (coordsV c s) (m (xLoc d)) (m (lLoc d)) (m (uLoc d)) (leaf 4 (qc c) s) (leaf 4 (qc c) s) (leaf 4 (qc c) s) O W hF (hpre d) hO (m (oLoc d))
  rw [set_oTile] at h
  exact h

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_pay m hF hpre d (Fin.cast nCore_zero c) (Fin.cast nSub_zero i) O W hO).trans (wp_mono frame _ _ fun _ => obl_post)

/-! ## A core's part, dealt to its tiles -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem corePay_eq (d : Dev nD) (f : Buf (Elt F) (oLoc d)) (c : Fin 2) :
    corePay m d f c = bigSep Finset.univ fun s : Fin 16 => tilePay m d f c s := by
  unfold corePay tilePay
  rw [bigSep_sep', bigSep_sep', bigSep_sep']
  unfold xPts lPts uPts
  rw [pointsTo_leaves Finset.univ (m (xLoc d)) 4 (qc c), pointsTo_leaves Finset.univ (m (lLoc d)) 4 (qc c), pointsTo_leaves Finset.univ (m (uLoc d)) 4 (qc c)]
  rfl

theorem wholePay_eq (d : Dev nD) (f : Buf (Elt F) (oLoc d)) :
    iprop(xPts m d fullShare ∗ lPts m d fullShare ∗ uPts m d fullShare ∗ oLoc d ↦{fullShare} f)
      = bigSep Finset.univ fun c : Fin 2 => corePay m d f c := by
  unfold corePay
  rw [bigSep_sep', bigSep_sep', bigSep_sep', oPts_rows]
  unfold xPts lPts uPts
  rw [pointsTo_leaves Finset.univ (m (xLoc d)) 1 fullShare, pointsTo_leaves Finset.univ (m (lLoc d)) 1 fullShare, pointsTo_leaves Finset.univ (m (uLoc d)) 1 fullShare]
  rfl

theorem vecSplit : (K (F := F)).VecSplit' (P m) 0 := by
  intro d c
  show corePay m d (m (oLoc d)) (Fin.cast nCore_zero c) ⊢ |={Set.univ}=> iprop(
      (bigSep Finset.univ fun i : Fin ((K (F := F)).nSub 0) => tilePay m d (m (oLoc d)) (Fin.cast nCore_zero c) (Fin.cast nSub_zero i))
      ∗ ((bigSep Finset.univ fun i : Fin ((K (F := F)).nSub 0) => tilePay m d (outM m d) (Fin.cast nCore_zero c) (Fin.cast nSub_zero i))
          -∗ corePay m d (outM m d) (Fin.cast nCore_zero c)))
  rw [bigSep_tasks (F := F) (fun i => tilePay m d (m (oLoc d)) (Fin.cast nCore_zero c) i), bigSep_tasks (F := F) (fun i => tilePay m d (outM m d) (Fin.cast nCore_zero c) i),
    corePay_eq m d (m (oLoc d)), corePay_eq m d (outM m d)]
  iintro H; imodintro
  isplitl [H]; · iexact H
  iintro H; iexact H

/-! ## The proof's own resources -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's part -/

abbrev o' : DevRef τ sig := Proc.devRef .tc (main_v0 : Ref sig .tc)
abbrev cst' : DevRef τ sig := Proc.devRef .tc (main_cst : Ref sig .tc)
abbrev s' : DevRef τ sig := Proc.devRef .tc (main_v1 : Ref sig .tc)
abbrev r' : DevRef τ sig := Proc.devRef .tc (main_v2 : Ref sig .tc)
abbrev opCst : HloOp τ sig (Elt F) := StableHlo.nullary main_cst (constant S_ .f32 0x00000000#32)
abbrev opSum : HloOp τ sig (Elt F) := StableHlo.binary main_v0 main_cst main_v1
  ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opRoot : HloOp τ sig (Elt F) := StableHlo.unary main_v1 main_v2 (Host.sqrt : (⟨S_, .f32⟩ : BufTy).Contents (Elt F) → (⟨S_, .f32⟩ : BufTy).Contents (Elt F))

/-- The root of the sum of the partial sums. -/
def resV (o : S32x16.Idx → Elt F .f32) : S_.Idx → Elt F .f32 :=
  Host.sqrt (F := F) (Host.reduceAdd (F := F) o (constant (F := F) S_ .f32 0x00000000#32) reducesTo_S32x16_S_d0_1 h_S_)

abbrev S4 : Finset (DevRef τ sig) := {o', cst', s', r'}

theorem held_S4 (d : Dev nD) (W : Valuation τ sig (Elt F)) :
    (held (T d) S4 W : sProp 𝕄)
      = iprop((oLoc d ↦{fullShare} W o') ∗ ((SparseCore.T d).loc main_cst ↦{fullShare} W cst') ∗ ((SparseCore.T d).loc main_v1 ↦{fullShare} W s')
          ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((xLoc d ↦{fullShare} W main_arg0) ∗ (lLoc d ↦{fullShare} W main_arg1) ∗ (uLoc d ↦{fullShare} W main_arg2)
          ∗ (oLoc d ↦{fullShare} W main_v0) ∗ ((SparseCore.T d).loc main_cst ↦{fullShare} W main_cst) ∗ ((SparseCore.T d).loc main_v1 ↦{fullShare} W main_v1)
          ∗ rLoc d ↦{fullShare} W main_v2) := by
  unfold unscopedBufs
  rw [show (Finset.univ.filter fun b : Ref sig .tc => ¬ b.isScoped) = {main_arg0, main_arg1, main_arg2, main_v0, main_cst, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- After the call, and after the host's three operations. -/
def V0 (d : Dev nD) : Valuation τ sig (Elt F) := Function.update (fun b => m (d, b)) o' (outM m d)
def V3 (d : Dev nD) : Valuation τ sig (Elt F) := (opRoot (F := F)).result ((opSum (F := F)).result ((opCst (F := F)).result (V0 m d)))

theorem V0_o (d : Dev nD) : V0 m d o' = outM m d := Function.update_self _ _ _
theorem V0_cst (d : Dev nD) : V0 m d cst' = m (d, cst') := Function.update_of_ne (show cst' ≠ o' by decide) _ _
theorem V0_s (d : Dev nD) : V0 m d s' = m (d, s') := Function.update_of_ne (show s' ≠ o' by decide) _ _
theorem V0_r (d : Dev nD) : V0 m d r' = m (d, r') := Function.update_of_ne (show r' ≠ o' by decide) _ _

theorem V3_r (d : Dev nD) : V3 m d r' = resV (outM m d) := by
  unfold V3 resV
  refine (StableHlo.unary_result _ _ _ _ _ _).trans ?_
  refine congrArg (Host.sqrt (F := F)) ((StableHlo.binary_result _ _ _ _ _ _ _ _).trans ?_)
  rw [(opCst (F := F)).result_of_not_mem _ (show o' ∉ ({cst'} : Finset (DevRef τ sig)) by decide), V0_o,
    show (opCst (F := F)).result (V0 m d) cst' = constant S_ .f32 0x00000000#32 from StableHlo.nullary_result _ _ _ _]

theorem hCst : (opCst (F := F)).bufs ⊆ S4 := show ({cst'} : Finset (DevRef τ sig)) ⊆ S4 by decide
theorem hSum : (opSum (F := F)).bufs ⊆ S4 := show ({o', cst', s'} : Finset (DevRef τ sig)) ⊆ S4 by decide
theorem hRoot : (opRoot (F := F)).bufs ⊆ S4 := show ({s', r'} : Finset (DevRef τ sig)) ⊆ S4 by decide

theorem st0_eq (d : Dev nD) : (bigSep Finset.univ fun c : Fin ((K (F := F)).nCore 0) => (P m).st 0 d c)
    = iprop(xPts m d fullShare ∗ lPts m d fullShare ∗ uPts m d fullShare ∗ oLoc d ↦{fullShare} m (oLoc d)) :=
  (bigSep_cores (F := F) (fun c => corePay m d (m (oLoc d)) c)).trans (wholePay_eq m d _).symm
theorem dn0_eq (d : Dev nD) : (bigSep Finset.univ fun c : Fin ((K (F := F)).nCore 0) => (P m).dn 0 d c)
    = iprop(xPts m d fullShare ∗ lPts m d fullShare ∗ uPts m d fullShare ∗ oLoc d ↦{fullShare} outM m d) :=
  (bigSep_cores (F := F) (fun c => corePay m d (outM m d) c)).trans (wholePay_eq m d _).symm

abbrev FIN (d : Dev nD) : sProp 𝕄 :=
  iprop(xPts m d fullShare ∗ lPts m d fullShare ∗ uPts m d fullShare ∗ rLoc d ↦{fullShare} (resV (outM m d) : Buf (Elt F) (rLoc d)))

/-- The host's program: the call, then the sum and its root. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hl, Hu, Ho, Hc, Hs, Hr⟩, Hts, -⟩, -⟩
  iapply ((K (F := F)).wp_run (D (F := F)) 𝒱 (EH := EH) (P := P m) κ d 0) $$ [Hst Hx Hl Hu Ho Hc Hs Hr Hb Hts]
  isplitr; · iexact Hctx
  isplitl [Hst]; · iexact Hst
  isplitl [Hx Hl Hu Ho]
  · rw [st0_eq]
    isplitl [Hx]; · iexact Hx
    isplitl [Hl]; · iexact Hl
    isplitl [Hu]; · iexact Hu
    iexact Ho
  iintro ⟨Hst, Hdn⟩
  ihave Hdn' := (Entails.of_eq (dn0_eq m d)) $$ Hdn
  icases Hdn' with ⟨Hx, Hl, Hu, Ho⟩
  iapply (wp_hlo_within 𝒱 (SparseCore.T d) none Set.univ (op := opCst) (S := S4) hCst (V := V0 m d)) $$ [Hb Ho Hc Hs Hr]
  · isplitl [Hb]; · iexact Hb
    rw [held_S4, V0_o, V0_cst, V0_s, V0_r]
    isplitl [Ho]; · iexact Ho
    isplitl [Hc]; · iexact Hc
    isplitl [Hs]; · iexact Hs
    iexact Hr
  iintro ⟨Hb, Hheld⟩
  rw [wp_ret]; imodintro
  iapply (wp_hlo_within 𝒱 (SparseCore.T d) none Set.univ (op := opSum) (S := S4) hSum (V := (opCst (F := F)).result (V0 m d))) $$ [Hb Hheld]
  · isplitl [Hb] <;> iassumption
  iintro ⟨Hb, Hheld⟩
  rw [wp_ret]; imodintro
  iapply (wp_hlo_within 𝒱 (SparseCore.T d) none Set.univ (op := opRoot) (S := S4) hRoot (V := (opSum (F := F)).result ((opCst (F := F)).result (V0 m d)))) $$ [Hb Hheld]
  · isplitl [Hb] <;> iassumption
  iintro ⟨Hb, Hheld⟩
  ihave Hh := (Entails.of_eq (show (held (T d) S4 ((opRoot (F := F)).result ((opSum (F := F)).result ((opCst (F := F)).result (V0 m d)))) : sProp 𝕄) = _ from held_S4 d (V3 m d))) $$ Hheld
  icases Hh with ⟨-, -, -, Hr⟩
  rw [wp_ret]; imodintro; imodintro
  isplitl [Hst]; · iexact Hst
  isplitr [Hb Hts]
  · isplitl [Hx]; · iexact Hx
    isplitl [Hl]; · iexact Hl
    isplitl [Hu]; · iexact Hu
    rw [V3_r]
    iexact Hr
  isplitl [Hb] <;> iassumption

/-- What the claims read of a device's end: its arguments as they were, the root at its value. -/
def fq (d : Dev nD) (st : Phys nD τ sig (Elt F)) : Prop :=
  st.mem.mem (xLoc d) = m (xLoc d) ∧ st.mem.mem (lLoc d) = m (lLoc d) ∧ st.mem.mem (uLoc d) = m (uLoc d) ∧ st.mem.mem (rLoc d) = resV (outM m d)

/-- A whole array held at `f` reads `f`. -/
theorem agree (st : Phys nD τ sig (Elt F)) (ℓ : Loc nD τ sig) (f : Buf (Elt F) ℓ) :
    iprop(SI st ∗ ℓ ↦{fullShare} f) ⊢ (iprop(⌜st.mem.mem ℓ = f⌝ ∗ SI st) : sProp 𝕄) := by
  iintro ⟨HSI, H⟩
  ihave H := (persistent_entails_right (SI_pointsTo_agree (st := st) (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (st : Phys nD τ sig (Elt F)) : iprop(FIN m d ∗ SI st) ⊢ (⌜fq m d st⌝ : sProp 𝕄) := by
  iintro ⟨⟨Hx, Hl, Hu, Hr⟩, HSI⟩
  ihave H := (agree st (xLoc d) (m (xLoc d))) $$ [HSI Hx]
  · isplitl [HSI] <;> iassumption
  icases H with ⟨%h1, HSI⟩
  ihave H := (agree st (lLoc d) (m (lLoc d))) $$ [HSI Hl]
  · isplitl [HSI] <;> iassumption
  icases H with ⟨%h2, HSI⟩
  ihave H := (agree st (uLoc d) (m (uLoc d))) $$ [HSI Hu]
  · isplitl [HSI] <;> iassumption
  icases H with ⟨%h3, HSI⟩
  ihave H := (agree st (rLoc d) (resV (outM m d))) $$ [HSI Hr]
  · isplitl [HSI] <;> iassumption
  icases H with ⟨%h4, -⟩
  ipureintro; exact ⟨h1, h2, h3, h4⟩

/-! ## The run -/

def QC : PUnit × MemSt nD τ sig (Elt F) → Prop := fun r =>
  (∀ c : Dev nD, r.2.mem (xLoc c) = m (xLoc c) ∧ r.2.mem (lLoc c) = m (lLoc c) ∧ r.2.mem (uLoc c) = m (uLoc c) ∧ r.2.mem (rLoc c) = resV (outM m c))
  ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Sq

end
-- ==== Proof.Sums.lean ====
/-
  The sums over the extended reals: what the kernel's accumulators hold, and that the thirty-two times sixteen partial sums add up to
  the sum of the squared differences over all the rows and columns.
-/
module

public import proofs.«01_k».proof.Proof.Launch
public import Idealize.ShloMosaic.PureOps.Ideal
public import Idealize.ShloMosaic.PureOps.Ideal.Laws
public import Idealize.ShloMosaic.Lib.ValueIdxCore
public import Idealize.ShloMosaic.Lib.Pipeline.Value

@[expose] public section

noncomputable section

namespace Cert.Proof.Sq

open Cert.KernelIdeal Cert.KernelIdeal.Gen Idealize.ShloMosaic Idealize.ShloMosaic.ValueIdx

variable (x : S320000x128.Idx → Elt Ideal .f32) (l : S320000.Idx → Elt Ideal .i32) (u : S10000x128.Idx → Elt Ideal .f32)

/-- The squared difference at row `r`, column `c`. -/
def sq (r : ℕ) (c : Fin 128) : EReal :=
  let d : EReal := x (at2 (inRow r) c) - u (at2 (cls (l (at1 (inRow r)))) c)
  d * d

/-- Lane `k` of the `j`-th sixteen columns. -/
def col (j : Fin 8) (k : Fin 16) : Fin 128 := ⟨16 * j.val + k.val, by omega⟩

/-- The `j`-th accumulator. -/
def get (a : Acc Ideal) (j : Fin 8) : S16.Idx → EReal :=
  match j with
  | 0 => a.1
  | 1 => a.2.1
  | 2 => a.2.2.1
  | 3 => a.2.2.2.1
  | 4 => a.2.2.2.2.1
  | 5 => a.2.2.2.2.2.1
  | 6 => a.2.2.2.2.2.2.1
  | 7 => a.2.2.2.2.2.2.2

/-- A sixteen-lane piece, cast to one axis, at a lane. -/
theorem cast_apply (v : Vec Ideal S1x16 .f32) (h : S1x16.ShapeCasts S16) (k : Fin 16) :
    (shapeCast S16 v h : S16.Idx → EReal) (at1 k) = v (at2 (0 : Fin 1) k) :=
  shapeCast_apply v h (at1 k) (at2 (0 : Fin 1) k) (by
    rw [Shape.rowMajor_val_two, Shape.rowMajor_val_one]
    show 0 * 16 + k.val = k.val
    omega)

/-- The element of a slot a piece's lane is. -/
theorem emb_at (o : Fin 2 → ℕ) (h : ∀ a, o a + S1x16.size a ≤ S40x128.size a) (t : ℕ) (ht : t < 40) (j : Fin 8)
    (ho : o = ![t, 16 * j.val]) (k : Fin 16) :
    (Rect.unit (s := S40x128) o S1x16.size h).emb (at2 (0 : Fin 1) k) = at2 (⟨t, ht⟩ : Fin 40) (col j k) := by
  subst ho
  funext a
  apply Fin.ext
  match a with
  | 0 => show t + 1 * 0 = t; omega
  | 1 => show 16 * j.val + 1 * k.val = 16 * j.val + k.val; omega

/-- One accumulator's step at a row. -/
theorem step_apply (r : ℕ) (a : FVec Ideal S16 .f32) (o : Fin 2 → ℕ) (h : ∀ a, o a + S1x16.size a ≤ S40x128.size a)
    (t : ℕ) (ht : t < 40) (j : Fin 8) (ho : o = ![t, 16 * j.val]) (k : Fin 16) :
    (k0_pay1 a (piece (gX x r) o h) (piece (gM l u r) o h) : S16.Idx → EReal) (at1 k)
      = (a : S16.Idx → EReal) (at1 k) + sq x l u (r + t) (col j k) := by
  show (a (at1 k) : EReal) + ((shapeCast S16 (piece (gX x r) o h) _ : S16.Idx → EReal) (at1 k)
      - (shapeCast S16 (piece (gM l u r) o h) _ : S16.Idx → EReal) (at1 k))
      * ((shapeCast S16 (piece (gX x r) o h) _ : S16.Idx → EReal) (at1 k)
      - (shapeCast S16 (piece (gM l u r) o h) _ : S16.Idx → EReal) (at1 k)) = _
  rw [cast_apply, cast_apply]
  unfold piece
  rw [emb_at o h t ht j ho]
  rfl

theorem trips_eq : k0_t2_loop.trips = 40 := by decide

/-- A row of a slot adds its squares to every accumulator. -/
theorem get_rowV (r : ℕ) (t : Fin k0_t2_loop.trips) (a : Acc Ideal) (j : Fin 8) (k : Fin 16) :
    get (rowV (gX x r) (gM l u r) t a) j (at1 k) = get a j (at1 k) + sq x l u (r + t.val) (col j k) := by
  have ht : t.val < 40 := trips_eq ▸ t.isLt
  match j with
  | 0 => exact step_apply x l u r _ _ _ t.val ht 0 (k0_off5_eq t) k
  | 1 => exact step_apply x l u r _ _ _ t.val ht 1 (k0_off6_eq t) k
  | 2 => exact step_apply x l u r _ _ _ t.val ht 2 (k0_off7_eq t) k
  | 3 => exact step_apply x l u r _ _ _ t.val ht 3 (k0_off8_eq t) k
  | 4 => exact step_apply x l u r _ _ _ t.val ht 4 (k0_off9_eq t) k
  | 5 => exact step_apply x l u r _ _ _ t.val ht 5 (k0_off10_eq t) k
  | 6 => exact step_apply x l u r _ _ _ t.val ht 6 (k0_off11_eq t) k
  | 7 => exact step_apply x l u r _ _ _ t.val ht 7 (k0_off12_eq t) k

/-- The first `n` rows of a slot. -/
theorem get_sumV (r : ℕ) (a : Acc Ideal) (j : Fin 8) (k : Fin 16) (n : ℕ) (hn : n ≤ k0_t2_loop.trips) :
    get (sumV (gX x r) (gM l u r) a n) j (at1 k) = get a j (at1 k) + ∑ t ∈ Finset.range n, sq x l u (r + t) (col j k) := by
  induction n with
  | zero => simp [sumV]
  | succ n ih =>
    have e := sumV_succ (gX x r) (gM l u r) a ⟨n, hn⟩
    simp only at e
    rw [e, get_rowV, ih (by omega), Finset.sum_range_succ, add_assoc]

/-- The first `n` chunks of a tile. -/
theorem get_accV (r n : ℕ) (j : Fin 8) (k : Fin 16) :
    get (accV' x l u r n) j (at1 k) = ∑ t ∈ Finset.range (40 * n), sq x l u (r + t) (col j k) := by
  induction n with
  | zero =>
    have z : (k0_pay71 (F := Ideal) : S16.Idx → EReal) (at1 k) = 0 := Ideal.ofBits_zero_f32
    rw [Nat.mul_zero, Finset.sum_range_zero]
    match j with
    | 0 | 1 | 2 | 3 | 4 | 5 | 6 | 7 => exact z
  | succ n ih =>
    rw [accV', get_sumV x l u _ _ j k _ le_rfl, ih, trips_eq, Nat.mul_succ, Finset.sum_range_add]
    simp only [add_assoc]

/-- A tile's partial sum at a lane. -/
theorem totV_apply (r : ℕ) (k : Fin 16) :
    (totV x l u r : S16.Idx → EReal) (at1 k)
      = ∑ j : Fin 8, ∑ t ∈ Finset.range 10000, sq x l u (r + t) (col j k) := by
  have e : (totV x l u r : S16.Idx → EReal) (at1 k) = ∑ j : Fin 8, get (accV' x l u r 250) j (at1 k) := by
    rw [Fin.sum_univ_eight]
    unfold totV k0_pay82
    rw [shapeCast_self]
    rfl
  rw [e]
  exact Finset.sum_congr rfl fun j _ => get_accV x l u r 250 j k

/-- The columns, sixteen by sixteen. -/
theorem sum_col (f : Fin 128 → EReal) : ∑ k : Fin 16, ∑ j : Fin 8, f (col j k) = ∑ c : Fin 128, f c := by
  rw [Finset.sum_comm, ← Fintype.sum_prod_type' (f := fun j k => f (col j k))]
  refine Fintype.sum_equiv (finProdFinEquiv (m := 8) (n := 16)) _ _ fun p => congrArg f (Fin.ext ?_)
  show 16 * p.1.val + p.2.val = p.2.val + 16 * p.1.val
  omega

/-- The rows, tile by tile. -/
theorem sum_tiles (f : ℕ → EReal) (b n : ℕ) :
    ∑ w ∈ Finset.range n, ∑ t ∈ Finset.range b, f (b * w + t) = ∑ t ∈ Finset.range (b * n), f t := by
  induction n with
  | zero => simp
  | succ n ih => rw [Finset.sum_range_succ, ih, Nat.mul_succ, Finset.sum_range_add]

/-- All the partial sums add up to the sum over all the rows and columns. -/
theorem sum_outV :
    ∑ i : S32x16.Idx, (outV x l u i : EReal) = ∑ r : Fin 320000, ∑ c : Fin 128, sq x l u r.val c := by
  have h1 : ∑ i : S32x16.Idx, (outV x l u i : EReal)
      = ∑ w : Fin 32, ∑ k : Fin 16, ∑ j : Fin 8, ∑ t ∈ Finset.range 10000, sq x l u (10000 * w.val + t) (col j k) :=
    (sum_idx2 _).trans (Finset.sum_congr rfl fun w _ => Finset.sum_congr rfl fun k _ => totV_apply x l u _ _)
  have h2 : ∀ w : Fin 32, ∑ k : Fin 16, ∑ j : Fin 8, ∑ t ∈ Finset.range 10000, sq x l u (10000 * w.val + t) (col j k)
      = ∑ t ∈ Finset.range 10000, ∑ c : Fin 128, sq x l u (10000 * w.val + t) c := fun w =>
    (sum_col fun c => ∑ t ∈ Finset.range 10000, sq x l u (10000 * w.val + t) c).trans Finset.sum_comm
  rw [h1, Finset.sum_congr rfl fun w _ => h2 w,
    ← Finset.sum_range fun w => ∑ t ∈ Finset.range 10000, ∑ c : Fin 128, sq x l u (10000 * w + t) c,
    sum_tiles (fun r => ∑ c : Fin 128, sq x l u r c), ← Finset.sum_range fun r => ∑ c : Fin 128, sq x l u r c]

end Cert.Proof.Sq

end
-- ==== Proof.Value.lean ====
/-
  What the precondition says of the labels, and that the reference's result is the kernel's: the reference's gather takes each label's
  row of the means, and its sum of the squares is the kernel's sum of its partial sums.
-/
module

public import proofs.«01_k».proof.Proof.Sums
public import proofs.«01_k».proof.Proof.Gen.ReferenceIdeal.Run
public import proofs.«01_k».proof.Proof.Gen.ReferenceIdeal.Read
public import proofs.«01_k».proof.Proof.Gen.Pre_labels_in_range
public import Idealize.ShloMosaic.Lib.ReduceAll
public import Idealize.ShloMosaic.Lib.IdealHost
public import Idealize.ShloMosaic.Lib.StableHlo.Predicate
public import Idealize.ShloMosaic.Lib.Routing.Ops

@[expose] public section

noncomputable section

namespace Cert.Proof.Sq

open Idealize.ShloMosaic Idealize.ShloMosaic.ValueIdx

/-! ## The labels -/

/-- A label at least zero and less than ten thousand, both signed, is a number less than ten thousand. -/
theorem lt_of_cmp (w : BitVec 32) (h0 : IntOp.cmpi .sge w 0#32 = 1#1) (h1 : IntOp.cmpi .slt w 10000#32 = 1#1) : w.toNat < 10000 := by
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  have := w.isLt
  omega

/-- The precondition: every label is less than ten thousand. -/
theorem ok_of_pre {F : FTy → Type} [FloatOps F] (x : Cert.Pre_labels_in_range.S320000x128.Idx → Elt F .f32)
    (l : Cert.Pre_labels_in_range.S320000.Idx → Elt F .i32) (u : Cert.Pre_labels_in_range.S10000x128.Idx → Elt F .f32)
    (h : Cert.Pre_labels_in_range.fn (F := F) x l u = fun _ => 1#1) (j : Cert.Pre_labels_in_range.S320000.Idx) :
    (l j : BitVec 32).toNat < 10000 := by
  haveI : Subsingleton Cert.Pre_labels_in_range.S_.Idx := ⟨fun a b => funext fun i => i.elim0⟩
  have e := congrFun h (Shape.Idx.first Cert.Pre_labels_in_range.Facts.h_S_)
  have e' := Host.reduce_andi_all _ _ _ _ _ e j
  obtain ⟨h0, h1⟩ := IntOp.andi_eq_one.1 e'
  exact lt_of_cmp _ h0 h1

/-! ## The reference's value -/

section Reference

open Cert.ReferenceIdeal Cert.ReferenceIdeal.Gen Cert.ReferenceIdeal.Read

variable (x : S320000x128.Idx → Elt Ideal .f32) (l : S320000.Idx → Elt Ideal .i32) (u : S10000x128.Idx → Elt Ideal .f32)
variable (hl : ∀ j, (l j : BitVec 32).toNat < 10000)
include hl

/-- A label that is not negative is taken as it is. -/
theorem label_eq (j : S320000.Idx) : val_main_call0_v4 (F := Ideal) l j = l j := by
  have h0 : ¬ (IntOp.cmpi .slt (l j : BitVec 32) 0#32 = 1#1) := fun e => by
    have := (StableHlo.Predicate.slt_iff_toNat (by have := hl j; omega) (by decide)).1 e
    simp at this
  rw [val_main_call0_v4_apply, val_main_call0_v1_apply, val_main_call0_v0_apply, val_main_call0_c_apply]
  unfold Scalar.select
  exact if_neg h0

/-- The reference's bounds test passes at every row. -/
theorem mask_eq (j : S320000.Idx) : val_main_call0_v12 (F := Ideal) l j = 1#1 := by
  refine Host.reduce_andi_one _ _ _ _ _ rfl fun i => ?_
  rw [val_main_call0_v11_apply, val_main_call0_v7_apply, val_main_call0_v10_apply, val_main_call0_v5_apply, label_eq l hl,
    val_main_call0_v6_apply, val_main_call0_c_2_apply, val_main_call0_v9_apply, val_main_call0_v8_apply, val_main_call0_c_1_apply]
  have := hl (idx_main_call0_v5 i)
  refine IntOp.andi_eq_one.2 ⟨(StableHlo.Predicate.sge_iff_toNat (by omega) (by decide)).2 (by simp),
    (StableHlo.Predicate.sle_iff_toNat (by omega) (by decide)).2 (by simp; omega)⟩

/-- The row of the means the reference takes for row `r`. -/
theorem taken_eq (r : Fin 320000) (c : Fin 128) :
    val_main_v0 (F := Ideal) l u (ix2 r c) = u (at2 (cls (l (at1 (inRow r.val)))) c) := by
  rw [val_main_v0_apply, val_main_call0_v14_apply, mask_eq l hl]
  show val_main_call0_v13 (F := Ideal) l u (ix2 r c) = _
  have hr : (at1 (inRow r.val) : S320000.Idx) = idx_main_call0_v5 (ix2 r (0 : Fin 1)) := by
    funext a
    match a with
    | 0 => exact Fin.ext (Nat.mod_eq_of_lt r.isLt)
  have hb : val_main_call0_v5 (F := Ideal) l (ix2 r (0 : Fin 1)) = BitVec.ofNat 32 (cls (l (at1 (inRow r.val)))).val := by
    rw [val_main_call0_v5_apply, label_eq l hl, hr]
    apply BitVec.eq_of_toNat_eq
    have := hl (idx_main_call0_v5 (ix2 r (0 : Fin 1)))
    simp only [cls, BitVec.toNat_ofNat]
    omega
  unfold val_main_call0_v13
  refine (Routing.gather_row _ rfl rfl rfl rfl rfl u _ r c _ hb (by decide)).trans (congrArg u ?_)
  funext a
  match a with
  | 0 | 1 => rfl

/-- The reference's sum of the squares. -/
theorem ref_sum : ∑ i : S320000x128.Idx, (val_main_v2 (F := Ideal) x l u i : EReal) = ∑ r : Fin 320000, ∑ c : Fin 128, sq x l u r.val c := by
  refine (sum_idx2 _).trans (Finset.sum_congr rfl fun r _ => Finset.sum_congr rfl fun c _ => ?_)
  have hx : x (ix2 r c) = x (at2 (inRow r.val) c) := congrArg x (by
    funext a
    match a with
    | 0 => exact Fin.ext (Nat.mod_eq_of_lt r.isLt).symm
    | 1 => rfl)
  rw [val_main_v2_apply, val_main_v1_apply, taken_eq l u hl, hx]
  rfl

/-- The kernel's result is the reference's. -/
theorem res_eq : resV (outV x l u) = val_main_v4 (F := Ideal) x l u := by
  have e : Host.reduceAdd (outV x l u) (constant Cert.KernelIdeal.S_ .f32 0x00000000#32)
      Cert.KernelIdeal.Facts₀.reducesTo_S32x16_S_d0_1 Cert.KernelIdeal.Facts₀.h_S_ = val_main_v3 (F := Ideal) x l u := by
    funext i
    rw [val_main_v3_apply, hostReduceAdd_apply, Ideal.hostReduceAdd_total _ (fun b => b.elim0)]
    exact congrArg₂ (· + ·) rfl ((sum_outV x l u).trans (ref_sum x l u hl).symm)
  unfold resV val_main_v4
  exact congrArg Host.sqrt e

end Reference

end Cert.Proof.Sq

end
-- ==== Proof.lean ====
/-
  The claims. The program with the floats as bits and the program with the floats as extended reals are one text: its run is proved once,
  for any floats (Proof/Launch.lean `run_main`), and both frames are read off it. The results agree by Proof/Value.lean `res_eq`.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_labels_in_range
public import proofs.«01_k».proof.Proof.Value
public import Idealize.ShloMosaic.Adequacy
public import Idealize.ShloMosaic.Init

@[expose] public section

noncomputable section

namespace Cert.Proof

open Idealize.ShloMosaic Idealize.SL.Sem Cert.Proof.Sq

/-- The kernel's frame: its run, at the floats as bits. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ fun d => ok_of_pre _ _ _ (hpre d))

/-- The idealized kernel's frame: the same run, at the extended reals. -/
theorem frame_kernelIdeal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ fun d => ok_of_pre _ _ _ (hpre d))

/-- The reference's frame: host operations only, and no semaphore. -/
theorem frame_referenceIdeal : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same frame, the labels in range. -/
theorem frame_referenceIdeal_pre : Cert.quiescent_ReferenceIdeal_pre_labels_in_range := fun m ρ _ =>
  frame_referenceIdeal m ρ trivial

/-- The results agree: the inputs, returned as they are, and the distance. -/
theorem algebraic : Cert.algebraic_KernelIdeal_ReferenceIdeal := by
  intro m ρ m' ρ' hpre hag
  have hok : PreOK m := fun d => ok_of_pre _ _ _ (hpre d)
  refine ⟨fun c => m (xLoc c), fun c => resV (outM m c), ?_, ?_⟩
  · exact (θ_run Cert.KernelIdeal.defs _ _).mono
      (fun _ h c => ⟨(h.1 c).1, (h.1 c).2.2.2, (h.1 c).1, (h.1 c).2.1, (h.1 c).2.2.1⟩) (run_main (F := Ideal) m ρ hok)
  · refine (θ_run Cert.ReferenceIdeal.defs _ _).mono
      (fun _ h c => ⟨(h c).1.trans (hag c).1, (h c).2.1.trans ?_, (h c).2.2⟩) (Cert.ReferenceIdeal.Value.run (F := Ideal) m' ρ')
    rw [(hag c).1, (hag c).2.1, (hag c).2.2]
    exact (Cert.ReferenceIdeal.Read.val_main_v4_eq _ _ _).trans (res_eq _ _ _ (hok c)).symm

theorem claim : Cert.Claim :=
  ⟨Cert.Kernel.Gen.facts, Cert.KernelIdeal.Gen.facts, Cert.ReferenceIdeal.Gen.facts, Cert.Pre_labels_in_range.Gen.facts,
    frame_kernel, frame_kernelIdeal, frame_referenceIdeal, frame_referenceIdeal_pre, trivial, algebraic⟩

end Cert.Proof

end
